-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S10000x128 : Shape := ⟨2, ![10000, 128]⟩
abbrev S10000x5000 : Shape := ⟨2, ![10000, 5000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S10000x5120 : Shape := ⟨2, ![10000, 5120]⟩
abbrev S10000x1 : Shape := ⟨2, ![10000, 1]⟩
abbrev S20x1x256 : Shape := ⟨3, ![20, 1, 256]⟩
abbrev S10000x256 : Shape := ⟨2, ![10000, 256]⟩
abbrev S1x1x256 : Shape := ⟨3, ![1, 1, 256]⟩
abbrev S1x256 : Shape := ⟨2, ![1, 256]⟩
abbrev S256 : Shape := ⟨1, ![256]⟩
abbrev S10000 : Shape := ⟨1, ![10000]⟩
abbrev S8x1x640 : Shape := ⟨3, ![8, 1, 640]⟩
abbrev S1x128 : Shape := ⟨2, ![1, 128]⟩
abbrev S10000x640 : Shape := ⟨2, ![10000, 640]⟩
abbrev S1x1x640 : Shape := ⟨3, ![1, 1, 640]⟩
abbrev S128x10000 : Shape := ⟨2, ![128, 10000]⟩
abbrev S128x640 : Shape := ⟨2, ![128, 640]⟩
abbrev S1x640 : Shape := ⟨2, ![1, 640]⟩
abbrev S640x128 : Shape := ⟨2, ![640, 128]⟩
abbrev S1x64 : Shape := ⟨2, ![1, 64]⟩
abbrev S10000x64 : Shape := ⟨2, ![10000, 64]⟩

abbrev nBuf : Space → Nat
  | .hbm => 18
  | .vmem => 40
  | .smem => 0
  | _ => 0

abbrev bufTy : (tb : Table) → Fin (tcTables nBuf tb) → BufTy
  | .hbm, ⟨0, _⟩ => ⟨S10000x128, .f32⟩
  | .hbm, ⟨1, _⟩ => ⟨S10000x5000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S10000x5120, .bf16⟩
  | .hbm, ⟨9, _⟩ => ⟨S10000x1, .f32⟩
  | .hbm, ⟨10, _⟩ => ⟨S20x1x256, .f32⟩
  | .hbm, ⟨11, _⟩ => ⟨S8x1x640, .f32⟩
  | .hbm, ⟨12, _⟩ => ⟨S1x128, .f32⟩
  | .hbm, ⟨13, _⟩ => ⟨S10000x128, .f32⟩
  | .hbm, ⟨14, _⟩ => ⟨S1x128, .f32⟩
  | .hbm, ⟨15, _⟩ => ⟨S10000x128, .f32⟩
  | .hbm, ⟨16, _⟩ => ⟨S1x64, .f32⟩
  | .hbm, ⟨17, _⟩ => ⟨S10000x64, .f32⟩
  | .local _ .vmem, ⟨0, _⟩ => ⟨S10000x256, .f32⟩
  | .local _ .vmem, ⟨1, _⟩ => ⟨S10000x256, .f32⟩
  | .local _ .vmem, ⟨2, _⟩ => ⟨S10000x256, .bf16⟩
  | .local _ .vmem, ⟨3, _⟩ => ⟨S10000x256, .bf16⟩
  | .local _ .vmem, ⟨4, _⟩ => ⟨S10000x1, .f32⟩
  | .local _ .vmem, ⟨5, _⟩ => ⟨S1x1x256, .f32⟩
  | .local _ .vmem, ⟨6, _⟩ => ⟨S1x1x256, .f32⟩
  | .local _ .vmem, ⟨7, _⟩ => ⟨S10000x128, .f32⟩
  | .local _ .vmem, ⟨8, _⟩ => ⟨S10000x640, .bf16⟩
  | .local _ .vmem, ⟨9, _⟩ => ⟨S10000x640, .bf16⟩
  | .local _ .vmem, ⟨10, _⟩ => ⟨S1x1x640, .f32⟩
  | .local _ .vmem, ⟨11, _⟩ => ⟨S1x1x640, .f32⟩
  | .local _ .vmem, ⟨12, _⟩ => ⟨S10000x1, .f32⟩
  | .local _ .vmem, ⟨13, _⟩ => ⟨S128x128, .f32⟩
  | .local _ .vmem, ⟨14, _⟩ => ⟨S1x128, .f32⟩
  | .local _ .vmem, ⟨15, _⟩ => ⟨S10000x128, .f32⟩
  | .local _ .vmem, ⟨16, _⟩ => ⟨S128x10000, .bf16⟩
  | .local _ .vmem, ⟨17, _⟩ => ⟨S10000x128, .f32⟩
  | .local _ .vmem, ⟨18, _⟩ => ⟨S10000x128, .f32⟩
  | .local _ .vmem, ⟨19, _⟩ => ⟨S10000x640, .bf16⟩
  | .local _ .vmem, ⟨20, _⟩ => ⟨S10000x640, .bf16⟩
  | .local _ .vmem, ⟨21, _⟩ => ⟨S1x1x640, .f32⟩
  | .local _ .vmem, ⟨22, _⟩ => ⟨S1x1x640, .f32⟩
  | .local _ .vmem, ⟨23, _⟩ => ⟨S10000x1, .f32⟩
  | .local _ .vmem, ⟨24, _⟩ => ⟨S128x128, .f32⟩
  | .local _ .vmem, ⟨25, _⟩ => ⟨S1x128, .f32⟩
  | .local _ .vmem, ⟨26, _⟩ => ⟨S10000x128, .f32⟩
  | .local _ .vmem, ⟨27, _⟩ => ⟨S128x10000, .bf16⟩
  | .local _ .vmem, ⟨28, _⟩ => ⟨S10000x128, .f32⟩
  | .local _ .vmem, ⟨29, _⟩ => ⟨S10000x128, .f32⟩
  | .local _ .vmem, ⟨30, _⟩ => ⟨S10000x640, .bf16⟩
  | .local _ .vmem, ⟨31, _⟩ => ⟨S10000x640, .bf16⟩
  | .local _ .vmem, ⟨32, _⟩ => ⟨S1x1x640, .f32⟩
  | .local _ .vmem, ⟨33, _⟩ => ⟨S1x1x640, .f32⟩
  | .local _ .vmem, ⟨34, _⟩ => ⟨S10000x1, .f32⟩
  | .local _ .vmem, ⟨35, _⟩ => ⟨S128x64, .f32⟩
  | .local _ .vmem, ⟨36, _⟩ => ⟨S1x64, .f32⟩
  | .local _ .vmem, ⟨37, _⟩ => ⟨S10000x64, .f32⟩
  | .local _ .vmem, ⟨38, _⟩ => ⟨S128x10000, .bf16⟩
  | .local _ .vmem, ⟨39, _⟩ => ⟨S10000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_scratch0 : Ref sig .tc := ⟨.vmem, 16, rfl⟩
abbrev cc1_scratch1 : Ref sig .tc := ⟨.vmem, 17, rfl⟩
abbrev cc2_stg0_0 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_scratch0 : Ref sig .tc := ⟨.vmem, 27, rfl⟩
abbrev cc2_scratch1 : Ref sig .tc := ⟨.vmem, 28, rfl⟩
abbrev cc3_stg0_0 : Ref sig .tc := ⟨.vmem, 29, rfl⟩
abbrev cc3_stg1_0 : Ref sig .tc := ⟨.vmem, 30, rfl⟩
abbrev cc3_stg1_1 : Ref sig .tc := ⟨.vmem, 31, rfl⟩
abbrev cc3_stg2_0 : Ref sig .tc := ⟨.vmem, 32, rfl⟩
abbrev cc3_stg2_1 : Ref sig .tc := ⟨.vmem, 33, rfl⟩
abbrev cc3_stg3_0 : Ref sig .tc := ⟨.vmem, 34, rfl⟩
abbrev cc3_stg4_0 : Ref sig .tc := ⟨.vmem, 35, rfl⟩
abbrev cc3_stg5_0 : Ref sig .tc := ⟨.vmem, 36, rfl⟩
abbrev cc3_stg6_0 : Ref sig .tc := ⟨.vmem, 37, rfl⟩
abbrev cc3_scratch0 : Ref sig .tc := ⟨.vmem, 38, rfl⟩
abbrev cc3_scratch1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem6_0 : DmaSem sig := 15
abbrev cc2_sem0_0 : DmaSem sig := 16
abbrev cc2_sem1_0 : DmaSem sig := 17
abbrev cc2_sem1_1 : DmaSem sig := 18
abbrev cc2_sem2_0 : DmaSem sig := 19
abbrev cc2_sem2_1 : DmaSem sig := 20
abbrev cc2_sem3_0 : DmaSem sig := 21
abbrev cc2_sem4_0 : DmaSem sig := 22
abbrev cc2_sem5_0 : DmaSem sig := 23
abbrev cc2_sem6_0 : DmaSem sig := 24
abbrev cc3_sem0_0 : DmaSem sig := 25
abbrev cc3_sem1_0 : DmaSem sig := 26
abbrev cc3_sem1_1 : DmaSem sig := 27
abbrev cc3_sem2_0 : DmaSem sig := 28
abbrev cc3_sem2_1 : DmaSem sig := 29
abbrev cc3_sem3_0 : DmaSem sig := 30
abbrev cc3_sem4_0 : DmaSem sig := 31
abbrev cc3_sem5_0 : DmaSem sig := 32
abbrev cc3_sem6_0 : DmaSem sig := 33

abbrev nD : Nat := 1
abbrev τ : Topo := Topo.v7x

variable {F : FTy → Type} [FloatOps F]

abbrev grid0 : Pipeline.Grid := ⟨1, ![20], ![false]⟩

def k0_cond1 (i : grid0.Coords) : BitVec 1 :=
  let arg0 : BitVec 32 := BitVec.ofNat 32 (i 0).val
  let c0_i32 : BitVec 32 := 0#32
  let v22 : BitVec 1 := Scalar.cmpi .eq arg0 c0_i32
  let v23 : BitVec 32 := Scalar.extui v22
  let c0_i32_10 : BitVec 32 := 0#32
  let v24 : BitVec 1 := Scalar.cmpi .ne v23 c0_i32_10
  v24

def k0_cond2 (i : grid0.Coords) : BitVec 1 :=
  let arg0 : BitVec 32 := BitVec.ofNat 32 (i 0).val
  let c0_i32_11 : BitVec 32 := 0#32
  let v25 : BitVec 1 := Scalar.cmpi .ne arg0 c0_i32_11
  let v26 : BitVec 32 := Scalar.extui v25
  let c0_i32_12 : BitVec 32 := 0#32
  let v27 : BitVec 1 := Scalar.cmpi .ne v26 c0_i32_12
  v27

def k0_cond3 (i : grid0.Coords) : BitVec 1 :=
  let arg0 : BitVec 32 := BitVec.ofNat 32 (i 0).val
  let c19_i32 : BitVec 32 := 19#32
  let v28 : BitVec 1 := Scalar.cmpi .eq arg0 c19_i32
  let v29 : BitVec 32 := Scalar.extui v28
  let c0_i32_13 : BitVec 32 := 0#32
  let v30 : BitVec 1 := Scalar.cmpi .ne v29 c0_i32_13
  v30

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S10000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S10000x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def k1_cond2 (i : grid1.Coords) : BitVec 1 :=
  let arg0 : BitVec 32 := BitVec.ofNat 32 (i 0).val
  let c7_i32 : BitVec 32 := 7#32
  let v19 : BitVec 1 := Scalar.cmpi .eq arg0 c7_i32
  let v20 : BitVec 32 := Scalar.extui v19
  let c0_i32_12 : BitVec 32 := 0#32
  let v21 : BitVec 1 := Scalar.cmpi .ne v20 c0_i32_12
  v21

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S10000x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S10000x640 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1x640 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S10000x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S10000x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev grid2 : Pipeline.Grid := ⟨1, ![8], ![false]⟩

def k2_cond2 (i : grid2.Coords) : BitVec 1 :=
  let arg0 : BitVec 32 := BitVec.ofNat 32 (i 0).val
  let c7_i32 : BitVec 32 := 7#32
  let v19 : BitVec 1 := Scalar.cmpi .eq arg0 c7_i32
  let v20 : BitVec 32 := Scalar.extui v19
  let c0_i32_12 : BitVec 32 := 0#32
  let v21 : BitVec 1 := Scalar.cmpi .ne v20 c0_i32_12
  v21

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S10000x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S10000x640 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x1x640 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S10000x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S10000x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev grid3 : Pipeline.Grid := ⟨1, ![8], ![false]⟩

def k3_cond2 (i : grid3.Coords) : BitVec 1 :=
  let arg0 : BitVec 32 := BitVec.ofNat 32 (i 0).val
  let c7_i32 : BitVec 32 := 7#32
  let v19 : BitVec 1 := Scalar.cmpi .eq arg0 c7_i32
  let v20 : BitVec 32 := Scalar.extui v19
  let c0_i32_12 : BitVec 32 := 0#32
  let v21 : BitVec 1 := Scalar.cmpi .ne v20 c0_i32_12
  v21

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S10000x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 2 → Memref sig .tc .vmem S10000x640 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1x1x640 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S10000x1 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S10000x64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]
-- ==== ReferenceIdeal.lean ====
abbrev S10000x128 : Shape := ⟨2, ![10000, 128]⟩
abbrev S10000x5000 : Shape := ⟨2, ![10000, 5000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S10000 : Shape := ⟨1, ![10000]⟩
abbrev S5000 : Shape := ⟨1, ![5000]⟩
abbrev S10000x1 : Shape := ⟨2, ![10000, 1]⟩
abbrev S5000x10000 : Shape := ⟨2, ![5000, 10000]⟩
abbrev S5000x128 : Shape := ⟨2, ![5000, 128]⟩
abbrev S5000x1 : Shape := ⟨2, ![5000, 1]⟩
abbrev S1x128 : Shape := ⟨2, ![1, 128]⟩
abbrev S10000x64 : Shape := ⟨2, ![10000, 64]⟩
abbrev S1x64 : Shape := ⟨2, ![1, 64]⟩

abbrev nBuf : Space → Nat
  | .hbm => 117
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x5000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S_, .f32⟩
  | .hbm, ⟨9, _⟩ => ⟨S10000, .f32⟩
  | .hbm, ⟨10, _⟩ => ⟨S_, .f32⟩
  | .hbm, ⟨11, _⟩ => ⟨S5000, .f32⟩
  | .hbm, ⟨12, _⟩ => ⟨S_, .f32⟩
  | .hbm, ⟨13, _⟩ => ⟨S10000, .f32⟩
  | .hbm, ⟨14, _⟩ => ⟨S10000, .f32⟩
  | .hbm, ⟨15, _⟩ => ⟨S10000, .f32⟩
  | .hbm, ⟨16, _⟩ => ⟨S_, .f32⟩
  | .hbm, ⟨17, _⟩ => ⟨S10000, .f32⟩
  | .hbm, ⟨18, _⟩ => ⟨S10000, .f32⟩
  | .hbm, ⟨19, _⟩ => ⟨S_, .f32⟩
  | .hbm, ⟨20, _⟩ => ⟨S5000, .f32⟩
  | .hbm, ⟨21, _⟩ => ⟨S5000, .f32⟩
  | .hbm, ⟨22, _⟩ => ⟨S_, .f32⟩
  | .hbm, ⟨23, _⟩ => ⟨S5000, .f32⟩
  | .hbm, ⟨24, _⟩ => ⟨S5000, .f32⟩
  | .hbm, ⟨25, _⟩ => ⟨S10000x1, .f32⟩
  | .hbm, ⟨26, _⟩ => ⟨S10000x128, .f32⟩
  | .hbm, ⟨27, _⟩ => ⟨S10000x128, .f32⟩
  | .hbm, ⟨28, _⟩ => ⟨S5000x10000, .f32⟩
  | .hbm, ⟨29, _⟩ => ⟨S5000x128, .f32⟩
  | .hbm, ⟨30, _⟩ => ⟨S5000x1, .f32⟩
  | .hbm, ⟨31, _⟩ => ⟨S5000x128, .f32⟩
  | .hbm, ⟨32, _⟩ => ⟨S5000x128, .f32⟩
  | .hbm, ⟨33, _⟩ => ⟨S10000x128, .f32⟩
  | .hbm, ⟨34, _⟩ => ⟨S10000x1, .f32⟩
  | .hbm, ⟨35, _⟩ => ⟨S10000x128, .f32⟩
  | .hbm, ⟨36, _⟩ => ⟨S10000x128, .f32⟩
  | .hbm, ⟨37, _⟩ => ⟨S10000x128, .f32⟩
  | .hbm, ⟨38, _⟩ => ⟨S1x128, .f32⟩
  | .hbm, ⟨39, _⟩ => ⟨S10000x128, .f32⟩
  | .hbm, ⟨40, _⟩ => ⟨S10000x128, .f32⟩
  | .hbm, ⟨41, _⟩ => ⟨S_, .f32⟩
  | .hbm, ⟨42, _⟩ => ⟨S10000x128, .f32⟩
  | .hbm, ⟨43, _⟩ => ⟨S10000x128, .f32⟩
  | .hbm, ⟨44, _⟩ => ⟨S_, .f32⟩
  | .hbm, ⟨45, _⟩ => ⟨S10000, .f32⟩
  | .hbm, ⟨46, _⟩ => ⟨S_, .f32⟩
  | .hbm, ⟨47, _⟩ => ⟨S5000, .f32⟩
  | .hbm, ⟨48, _⟩ => ⟨S_, .f32⟩
  | .hbm, ⟨49, _⟩ => ⟨S10000, .f32⟩
  | .hbm, ⟨50, _⟩ => ⟨S10000, .f32⟩
  | .hbm, ⟨51, _⟩ => ⟨S10000, .f32⟩
  | .hbm, ⟨52, _⟩ => ⟨S_, .f32⟩
  | .hbm, ⟨53, _⟩ => ⟨S10000, .f32⟩
  | .hbm, ⟨54, _⟩ => ⟨S10000, .f32⟩
  | .hbm, ⟨55, _⟩ => ⟨S_, .f32⟩
  | .hbm, ⟨56, _⟩ => ⟨S5000, .f32⟩
  | .hbm, ⟨57, _⟩ => ⟨S5000, .f32⟩
  | .hbm, ⟨58, _⟩ => ⟨S_, .f32⟩
  | .hbm, ⟨59, _⟩ => ⟨S5000, .f32⟩
  | .hbm, ⟨60, _⟩ => ⟨S5000, .f32⟩
  | .hbm, ⟨61, _⟩ => ⟨S10000x1, .f32⟩
  | .hbm, ⟨62, _⟩ => ⟨S10000x128, .f32⟩
  | .hbm, ⟨63, _⟩ => ⟨S10000x128, .f32⟩
  | .hbm, ⟨64, _⟩ => ⟨S5000x10000, .f32⟩
  | .hbm, ⟨65, _⟩ => ⟨S5000x128, .f32⟩
  | .hbm, ⟨66, _⟩ => ⟨S5000x1, .f32⟩
  | .hbm, ⟨67, _⟩ => ⟨S5000x128, .f32⟩
  | .hbm, ⟨68, _⟩ => ⟨S5000x128, .f32⟩
  | .hbm, ⟨69, _⟩ => ⟨S10000x128, .f32⟩
  | .hbm, ⟨70, _⟩ => ⟨S10000x1, .f32⟩
  | .hbm, ⟨71, _⟩ => ⟨S10000x128, .f32⟩
  | .hbm, ⟨72, _⟩ => ⟨S10000x128, .f32⟩
  | .hbm, ⟨73, _⟩ => ⟨S10000x128, .f32⟩
  | .hbm, ⟨74, _⟩ => ⟨S1x128, .f32⟩
  | .hbm, ⟨75, _⟩ => ⟨S10000x128, .f32⟩
  | .hbm, ⟨76, _⟩ => ⟨S10000x128, .f32⟩
  | .hbm, ⟨77, _⟩ => ⟨S_, .f32⟩
  | .hbm, ⟨78, _⟩ => ⟨S10000x128, .f32⟩
  | .hbm, ⟨79, _⟩ => ⟨S10000x128, .f32⟩
  | .hbm, ⟨80, _⟩ => ⟨S10000x128, .f32⟩
  | .hbm, ⟨81, _⟩ => ⟨S_, .f32⟩
  | .hbm, ⟨82, _⟩ => ⟨S10000, .f32⟩
  | .hbm, ⟨83, _⟩ => ⟨S_, .f32⟩
  | .hbm, ⟨84, _⟩ => ⟨S5000, .f32⟩
  | .hbm, ⟨85, _⟩ => ⟨S_, .f32⟩
  | .hbm, ⟨86, _⟩ => ⟨S10000, .f32⟩
  | .hbm, ⟨87, _⟩ => ⟨S10000, .f32⟩
  | .hbm, ⟨88, _⟩ => ⟨S10000, .f32⟩
  | .hbm, ⟨89, _⟩ => ⟨S_, .f32⟩
  | .hbm, ⟨90, _⟩ => ⟨S10000, .f32⟩
  | .hbm, ⟨91, _⟩ => ⟨S10000, .f32⟩
  | .hbm, ⟨92, _⟩ => ⟨S_, .f32⟩
  | .hbm, ⟨93, _⟩ => ⟨S5000, .f32⟩
  | .hbm, ⟨94, _⟩ => ⟨S5000, .f32⟩
  | .hbm, ⟨95, _⟩ => ⟨S_, .f32⟩
  | .hbm, ⟨96, _⟩ => ⟨S5000, .f32⟩
  | .hbm, ⟨97, _⟩ => ⟨S5000, .f32⟩
  | .hbm, ⟨98, _⟩ => ⟨S10000x1, .f32⟩
  | .hbm, ⟨99, _⟩ => ⟨S10000x128, .f32⟩
  | .hbm, ⟨100, _⟩ => ⟨S10000x128, .f32⟩
  | .hbm, ⟨101, _⟩ => ⟨S5000x10000, .f32⟩
  | .hbm, ⟨102, _⟩ => ⟨S5000x128, .f32⟩
  | .hbm, ⟨103, _⟩ => ⟨S5000x1, .f32⟩
  | .hbm, ⟨104, _⟩ => ⟨S5000x128, .f32⟩
  | .hbm, ⟨105, _⟩ => ⟨S5000x128, .f32⟩
  | .hbm, ⟨106, _⟩ => ⟨S10000x128, .f32⟩
  | .hbm, ⟨107, _⟩ => ⟨S10000x1, .f32⟩
  | .hbm, ⟨108, _⟩ => ⟨S10000x128, .f32⟩
  | .hbm, ⟨109, _⟩ => ⟨S10000x128, .f32⟩
  | .hbm, ⟨110, _⟩ => ⟨S10000x64, .f32⟩
  | .hbm, ⟨111, _⟩ => ⟨S1x64, .f32⟩
  | .hbm, ⟨112, _⟩ => ⟨S10000x64, .f32⟩
  | .hbm, ⟨113, _⟩ => ⟨S10000x64, .f32⟩
  | .hbm, ⟨114, _⟩ => ⟨S_, .f32⟩
  | .hbm, ⟨115, _⟩ => ⟨S10000x64, .f32⟩
  | .hbm, ⟨116, _⟩ => ⟨S10000x64, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_cst_1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst_2 : Ref sig .tc := ⟨.hbm, 16, rfl⟩
abbrev main_v5 : Ref sig .tc := ⟨.hbm, 17, rfl⟩
abbrev main_v6 : Ref sig .tc := ⟨.hbm, 18, rfl⟩
abbrev main_cst_3 : Ref sig .tc := ⟨.hbm, 19, rfl⟩
abbrev main_v7 : Ref sig .tc := ⟨.hbm, 20, rfl⟩
abbrev main_v8 : Ref sig .tc := ⟨.hbm, 21, rfl⟩
abbrev main_cst_4 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_call0_cst : Ref sig .tc := ⟨.hbm, 41, rfl⟩
abbrev main_call0_v0 : Ref sig .tc := ⟨.hbm, 42, rfl⟩
abbrev main_v27 : Ref sig .tc := ⟨.hbm, 43, rfl⟩
abbrev main_cst_5 : Ref sig .tc := ⟨.hbm, 44, rfl⟩
abbrev main_v28 : Ref sig .tc := ⟨.hbm, 45, rfl⟩
abbrev main_cst_6 : Ref sig .tc := ⟨.hbm, 46, rfl⟩
abbrev main_v29 : Ref sig .tc := ⟨.hbm, 47, rfl⟩
abbrev main_cst_7 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_8 : Ref sig .tc := ⟨.hbm, 52, rfl⟩
abbrev main_v33 : Ref sig .tc := ⟨.hbm, 53, rfl⟩
abbrev main_v34 : Ref sig .tc := ⟨.hbm, 54, rfl⟩
abbrev main_cst_9 : Ref sig .tc := ⟨.hbm, 55, rfl⟩
abbrev main_v35 : Ref sig .tc := ⟨.hbm, 56, rfl⟩
abbrev main_v36 : Ref sig .tc := ⟨.hbm, 57, rfl⟩
abbrev main_cst_10 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_call1_cst : Ref sig .tc := ⟨.hbm, 77, rfl⟩
abbrev main_call1_v0 : Ref sig .tc := ⟨.hbm, 78, rfl⟩
abbrev main_v55 : Ref sig .tc := ⟨.hbm, 79, rfl⟩
abbrev main_v56 : Ref sig .tc := ⟨.hbm, 80, rfl⟩
abbrev main_cst_11 : Ref sig .tc := ⟨.hbm, 81, rfl⟩
abbrev main_v57 : Ref sig .tc := ⟨.hbm, 82, rfl⟩
abbrev main_cst_12 : Ref sig .tc := ⟨.hbm, 83, rfl⟩
abbrev main_v58 : Ref sig .tc := ⟨.hbm, 84, rfl⟩
abbrev main_cst_13 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_cst_14 : Ref sig .tc := ⟨.hbm, 89, rfl⟩
abbrev main_v62 : Ref sig .tc := ⟨.hbm, 90, rfl⟩
abbrev main_v63 : Ref sig .tc := ⟨.hbm, 91, rfl⟩
abbrev main_cst_15 : Ref sig .tc := ⟨.hbm, 92, rfl⟩
abbrev main_v64 : Ref sig .tc := ⟨.hbm, 93, rfl⟩
abbrev main_v65 : Ref sig .tc := ⟨.hbm, 94, rfl⟩
abbrev main_cst_16 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_call2_cst : Ref sig .tc := ⟨.hbm, 114, rfl⟩
abbrev main_call2_v0 : Ref sig .tc := ⟨.hbm, 115, rfl⟩
abbrev main_v84 : Ref sig .tc := ⟨.hbm, 116, rfl⟩

abbrev nD : Nat := 1
abbrev τ : Topo := Topo.v7x

variable {F : FTy → Type} [FloatOps F]
-- ==== Proof.WholeBlock.lean ====
/-
  Loads and stores of a whole buffer. Every load and store of the two kernels moves the whole block it names (its
  rectangle starts at zero and has the buffer's extents), so a load reads the contents and the last store is what the
  buffer holds. These three statements are what the bodies' runs are read with.
-/
module

public import Idealize.ShloMosaic.Lib.Exec
public import Idealize.ShloMosaic.Lib.Pipeline.FrameBody
public import Idealize.ShloMosaic.Lib.Pipeline.Value

@[expose] public section

namespace Cert.Proof.WholeBlock

open Idealize.ShloMosaic

/-- Two zeros are the zero offset on two axes. -/
theorem zero2 : (![0, 0] : Fin 2 → ℕ) = fun _ => 0 := by decide
/-- Three zeros are the zero offset on three axes. -/
theorem zero3 : (![0, 0, 0] : Fin 3 → ℕ) = fun _ => 0 := by decide

variable {Val : EltTy → Type} {sig : RefSig} {κ : Kind} {sp : Space} {S : Shape} {e : EltTy}

/-- After a store of the whole buffer, whatever was stored before, the buffer reads as what was stored. -/
theorem read_store (v : View sig κ sp S e) (f : v.ty.Contents Val) {off : Fin S.rank → ℕ} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst h
  funext y
  have hy := View.read_writes_cons_emb v f (Rect.whole S) w L y
  rw [Rect.emb_whole_apply] at hy
  exact hy

/-- A load of the whole buffer reads its contents. -/
theorem load_read (v : View sig κ sp S e) (f : v.ty.Contents Val) {off : Fin S.rank → ℕ} (h : off = fun _ => 0)
    (inb : ∀ a, off a + S.size a ≤ S.size a) :
    v.readAt Val (Rect.unit off S.size inb).toLoadRect f = v.read Val f := by
  subst h
  funext y
  exact (View.readAt_apply ..).trans (congrArg (v.read Val f) (Rect.emb_whole_apply (s := S) y))

/-- A load of the whole buffer after a store of the whole buffer reads what was stored. -/
theorem load_store [∀ e, Nonempty (Val e)] (v : View sig κ sp S e) {off : Fin S.rank → ℕ} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w :=
  (load_read v _ h inb).trans (read_store v _ h inb w L)

/-- A load of a whole buffer that holds the contents reading as `x` gives `x`. -/
theorem load_unread {m : Memref sig κ sp S e} (hm : m.IsWhole) (x : S.Idx → Val e) {off : Fin S.rank → ℕ} (h : off = fun _ => 0)
    (inb : ∀ a, off a + S.size a ≤ S.size a) :
    m.view.readAt Val (Rect.unit off S.size inb).toLoadRect (hm.unread x) = x :=
  (load_read m.view _ h inb).trans (hm.read_unread x)

end Cert.Proof.WholeBlock
-- ==== Proof.DegCast.lean ====
/-
  The kernel call that casts the incidence matrix and computes the degrees (`cc0__deg_cast_body`, a grid of 20 blocks of
  256 hyperedges), run at any contents of its arrays.

  The last block overhangs the 5000 hyperedges: what its buffer holds beyond them is not determined, and the body masks
  it to zero. So every value is read off the masked block, which the overhang does not change. The vertex degrees are
  accumulated in the output's own buffer from block to block, and at the last block turned into their inverse roots.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.WholeBlock
public import Idealize.ShloMosaic.Lib.Ring
public import Idealize.ShloMosaic.Lib.Tactic
public import Idealize.ShloMosaic.Lib.WordCmp
public import Idealize.ShloMosaic.Lib.ValueIdxCore
public import Idealize.ShloMosaic.Lib.Pipeline.Value
public import Idealize.ShloMosaic.Lib.Pipeline.ClipFacts

@[expose] public section

set_option maxRecDepth 16384

noncomputable section

namespace Cert.Proof.DegCast

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf Clip)

variable {F : FTy → Type} [FloatOps F]

local notation "𝕄" => MT nD τ sig Unit (Elt F) ℕ (UR sig nD τ) ℕ

/-! ## The body's three conditions -/

/-- The degrees are begun at the first block only. -/
theorem cond1_iff : ∀ t : Fin cfg0.N, k0_cond1 (grid0.coords t) = 1#1 ↔ t.val = 0 :=
  (fun t => by
    have ht : t.val < 20 := Nat.lt_of_lt_of_eq t.isLt N_0
    have e0 : (grid0.coords t 0).val = t.val / 1 % 20 := Pipeline.Grid.coords_val t 0 (by decide) rfl
    simp only [k0_cond1, e0]
    word_cmp
   : ∀ t : Fin grid0.N, k0_cond1 (grid0.coords t) = 1#1 ↔ t.val = 0)

/-- They gain a block's contribution at every later block. -/
theorem cond2_iff : ∀ t : Fin cfg0.N, k0_cond2 (grid0.coords t) = 1#1 ↔ t.val ≠ 0 :=
  (fun t => by
    have ht : t.val < 20 := Nat.lt_of_lt_of_eq t.isLt N_0
    have e0 : (grid0.coords t 0).val = t.val / 1 % 20 := Pipeline.Grid.coords_val t 0 (by decide) rfl
    simp only [k0_cond2, e0]
    word_cmp
   : ∀ t : Fin grid0.N, k0_cond2 (grid0.coords t) = 1#1 ↔ t.val ≠ 0)

/-- Their inverse roots are formed at the last block only. -/
theorem cond3_iff : ∀ t : Fin cfg0.N, k0_cond3 (grid0.coords t) = 1#1 ↔ t.val = 19 :=
  (fun t => by
    have ht : t.val < 20 := Nat.lt_of_lt_of_eq t.isLt N_0
    have e0 : (grid0.coords t 0).val = t.val / 1 % 20 := Pipeline.Grid.coords_val t 0 (by decide) rfl
    simp only [k0_cond3, e0]
    word_cmp
   : ∀ t : Fin grid0.N, k0_cond3 (grid0.coords t) = 1#1 ↔ t.val = 19)

/-! ## The masked block -/

/-- The mask's bit at a column: whether the column's hyperedge exists. -/
theorem mask_bit (a b : ℕ) (ha : a < 256) (hb : b < 20) :
    IntOp.cmpi .slt (IntOp.addi (BitVec.ofNat 32 a) (IntOp.muli (BitVec.ofNat 32 b) 256#32)) 5000#32
      = BitVec.ofBool (decide (256 * b + a < 5000)) := by
  rw [WordCmp.muli_ofNat, WordCmp.addi_ofNat, show a + b * 256 = 256 * b + a from by omega]
  word_cmp

/-- The masked block at an index: the block's element where the hyperedge exists, zero beyond. -/
theorem masked_apply (i : grid0.Coords) (X : Vec F S10000x256 .f32) (j : S10000x256.Idx) :
    k0_pay1 i X j = if 256 * (i 0).val + (j 1).val < 5000 then X j else Scalar.ofBits .f32 0x00000000#32 := by
  have h0 : (i 0).val < 20 := (i 0).isLt
  have h1 : (j 1).val < 256 := (j 1).isLt
  unfold k0_pay1
  dsimp only
  rw [select_apply, broadcastTo_apply (s := S1x256) _ _ j (ix2 (0 : Fin 1) (⟨(j 1).val, h1⟩ : Fin 256)) (fun a => by
      match a with
      | ⟨0, _⟩ => rfl
      | ⟨1, _⟩ => rfl), shapeCast_self]
  have e : (cmpi .slt (addi (iota .tc S1x256 32 [1] iota_S1x256_d1_w32) (broadcast S1x256 (Scalar.muli (BitVec.ofNat 32 (i 0).val) 256#32)))
      (broadcast S1x256 5000#32)) (ix2 (0 : Fin 1) (⟨(j 1).val, h1⟩ : Fin 256)) = BitVec.ofBool (decide (256 * (i 0).val + (j 1).val < 5000)) := by
    refine Eq.trans ?_ (mask_bit (j 1).val (i 0).val h1 h0)
    show IntOp.cmpi .slt (IntOp.addi (BitVec.ofNat 32 (0 * 256 + (j 1).val)) _) _ = _
    rw [Nat.zero_mul, Nat.zero_add]; rfl
  rw [e, WordCmp.select_decide]; rfl

/-- A column whose hyperedge exists is one the fetch moves. -/
theorem moved_of_lt (i : grid0.Coords) (j : S10000x256.Idx) (h : 256 * (i 0).val + (j 1).val < 5000) :
    win0_0.moved i j = true := by
  have h0 : (i 0).val < 20 := (i 0).isLt
  have h1 : (j 1).val < 256 := (j 1).isLt
  rw [win0_0.moved_iff]
  intro a
  match a with
  | ⟨0, _⟩ =>
    have hj : (j 0).val < 10000 := (j 0).isLt
    exact lt_of_lt_of_eq hj (Clip.extent_of_inb (ix := 0) (k := 10000) (d := 10000) (by decide)).symm
  | ⟨1, _⟩ =>
    have e : cc0_transform_0 i 1 = (i 0).val := by
      show (BitVec.ofNat 32 (i 0).val).toNat = _
      rw [BitVec.toNat_ofNat]; omega
    show (j 1).val < (Clip.of (cc0_transform_0 i 1) 256 5000).extent 256
    rw [e]
    unfold Clip.of
    split
    · exact h1
    · show (j 1).val < 5000 - (i 0).val * 256
      omega

/-- What fills the buffer beyond the hyperedges does not change the masked block. -/
theorem masked_fill (i : grid0.Coords) (d d' : Vec F S10000x256 .f32) (g : (win0_0.xblock i).Idx → Elt F .f32) :
    k0_pay1 i (win0_0.fill i d g) = k0_pay1 i (win0_0.fill i d' g) := by
  funext j
  rw [masked_apply, masked_apply]
  by_cases h : 256 * (i 0).val + (j 1).val < 5000
  · rw [if_pos h, if_pos h]
    unfold Window.fill
    rw [dif_pos (moved_of_lt i j h), dif_pos (moved_of_lt i j h)]
  · rw [if_neg h, if_neg h]

/-- Nor the stored incidence block, -/
theorem pay2_fill (i : grid0.Coords) (d d' : Vec F S10000x256 .f32) (g : (win0_0.xblock i).Idx → Elt F .f32) :
    k0_pay2 i (win0_0.fill i d g) = k0_pay2 i (win0_0.fill i d' g) := by
  unfold k0_pay2; rw [masked_fill i d d' g]
/-- nor the inverse hyperedge degrees, -/
theorem pay3_fill (i : grid0.Coords) (d d' : Vec F S10000x256 .f32) (g : (win0_0.xblock i).Idx → Elt F .f32) :
    k0_pay3 i (win0_0.fill i d g) = k0_pay3 i (win0_0.fill i d' g) := by
  unfold k0_pay3; rw [masked_fill i d d' g]
/-- nor the block's part of the vertex degrees, -/
theorem pay4_fill (i : grid0.Coords) (d d' : Vec F S10000x256 .f32) (g : (win0_0.xblock i).Idx → Elt F .f32) :
    k0_pay4 i (win0_0.fill i d g) = k0_pay4 i (win0_0.fill i d' g) := by
  unfold k0_pay4; rw [masked_fill i d d' g]
/-- nor the degrees that gain it. -/
theorem pay5_fill (i : grid0.Coords) (d d' : Vec F S10000x256 .f32) (g : (win0_0.xblock i).Idx → Elt F .f32) (v : Vec F S10000x1 .f32) :
    k0_pay5 i (win0_0.fill i d g) v = k0_pay5 i (win0_0.fill i d' g) v := by
  unfold k0_pay5; rw [pay4_fill i d d' g]

/-! ## The body, case by case -/

set_option maxHeartbeats 2000000 in
/-- At the first block: the incidence block, its inverse hyperedge degrees, and its part of the vertex degrees are stored. -/
theorem run_first (c : Dev nD) (i : grid0.Coords) (arg1 : Memref sig .tc .vmem S10000x256 .f32) (harg1 : arg1.IsWhole) (arg2 : Memref sig .tc .vmem S10000x256 .bf16) (harg2 : arg2.IsWhole) (arg3 : Memref sig .tc .vmem S10000x1 .f32) (harg3 : arg3.IsWhole) (arg4 : Memref sig .tc .vmem S1x1x256 .f32) (harg4 : arg4.IsWhole)
    (hc1 : k0_cond1 i = 1#1) (hc2 : ¬k0_cond2 i = 1#1) (hc3 : ¬k0_cond3 i = 1#1)
    (x : Vec F S10000x256 .f32) (E : Set ℕ) (K : PUnit → sProp 𝕄) :
    iprop(owns (c : Thread nD τ) arg1 fullShare x ∗ (∃ d, owns (c : Thread nD τ) arg2 fullShare d) ∗ (∃ d, owns (c : Thread nD τ) arg3 fullShare d) ∗ (∃ d, owns (c : Thread nD τ) arg4 fullShare d)
      ∗ (iprop(owns (c : Thread nD τ) arg1 fullShare x ∗ owns (c : Thread nD τ) arg2 fullShare (k0_pay2 i x) ∗ owns (c : Thread nD τ) arg3 fullShare (k0_pay4 i x) ∗ owns (c : Thread nD τ) arg4 fullShare (k0_pay3 i x)) -∗ K ⟨⟩))
      ⊢ wp frame (wpE (defs₀ (F := F)) Variants.none c none) E (cc0__deg_cast_body i arg1 harg1 arg2 harg2 arg3 harg3 arg4 harg4) K := by
  simp only [cc0__deg_cast_body_eq_skeleton]; unfold cc0__deg_cast_body_skel
  unfold owns
  iintro ⟨⟨%f0, %hf0, H0⟩, ⟨%d1, %f1, -, H1⟩, ⟨%d2, %f2, -, H2⟩, ⟨%d3, %f3, -, H3⟩, Hk⟩
  obtain rfl := harg1.eq_unread hf0
  sl_exec (disch := first | sl_exact hc1 | sl_exact hc2 | sl_exact hc3)
  sl_step
  iapply Hk
  have larg1 := WholeBlock.load_unread harg1 x WholeBlock.zero2 inb_S10000x256_S10000x256_0_0
  have lst3 := fun (w : Vec F S10000x1 .f32) (L : List (View.Piece (Elt F) S10000x1 .f32)) => WholeBlock.load_store arg3.view WholeBlock.zero2 inb_S10000x1_S10000x1_0_0 w L
  isplitl [H0]
  · iexists _; isplitr; · ipureintro; exact harg1.read_unread _
    iexact H0
  isplitl [H1]
  · iexists _; isplitr
    swap; · iexact H1
    ipureintro
    refine (WholeBlock.read_store _ _ WholeBlock.zero2 _ _ _).trans ?_
    simp only [larg1]
  isplitl [H2]
  · iexists _; isplitr
    swap; · iexact H2
    ipureintro
    refine (WholeBlock.read_store _ _ WholeBlock.zero2 _ _ _).trans ?_
    simp only [larg1, lst3]
  · iexists _; isplitr
    swap; · iexact H3
    ipureintro
    refine (WholeBlock.read_store _ _ WholeBlock.zero3 _ _ _).trans ?_
    simp only [larg1]

set_option maxHeartbeats 2000000 in
/-- At a block that is neither first nor last: the vertex degrees gain its part. -/
theorem run_mid (c : Dev nD) (i : grid0.Coords) (arg1 : Memref sig .tc .vmem S10000x256 .f32) (harg1 : arg1.IsWhole) (arg2 : Memref sig .tc .vmem S10000x256 .bf16) (harg2 : arg2.IsWhole) (arg3 : Memref sig .tc .vmem S10000x1 .f32) (harg3 : arg3.IsWhole) (arg4 : Memref sig .tc .vmem S1x1x256 .f32) (harg4 : arg4.IsWhole)
    (hc1 : ¬k0_cond1 i = 1#1) (hc2 : k0_cond2 i = 1#1) (hc3 : ¬k0_cond3 i = 1#1)
    (x : Vec F S10000x256 .f32) (v : Vec F S10000x1 .f32) (E : Set ℕ) (K : PUnit → sProp 𝕄) :
    iprop(owns (c : Thread nD τ) arg1 fullShare x ∗ (∃ d, owns (c : Thread nD τ) arg2 fullShare d) ∗ owns (c : Thread nD τ) arg3 fullShare v ∗ (∃ d, owns (c : Thread nD τ) arg4 fullShare d)
      ∗ (iprop(owns (c : Thread nD τ) arg1 fullShare x ∗ owns (c : Thread nD τ) arg2 fullShare (k0_pay2 i x) ∗ owns (c : Thread nD τ) arg3 fullShare (k0_pay5 i x v) ∗ owns (c : Thread nD τ) arg4 fullShare (k0_pay3 i x)) -∗ K ⟨⟩))
      ⊢ wp frame (wpE (defs₀ (F := F)) Variants.none c none) E (cc0__deg_cast_body i arg1 harg1 arg2 harg2 arg3 harg3 arg4 harg4) K := by
  simp only [cc0__deg_cast_body_eq_skeleton]; unfold cc0__deg_cast_body_skel
  unfold owns
  iintro ⟨⟨%f0, %hf0, H0⟩, ⟨%d1, %f1, -, H1⟩, ⟨%f2, %hf2, H2⟩, ⟨%d3, %f3, -, H3⟩, Hk⟩
  obtain rfl := harg1.eq_unread hf0; obtain rfl := harg3.eq_unread hf2
  sl_exec (disch := first | sl_exact hc1 | sl_exact hc2 | sl_exact hc3)
  sl_step
  iapply Hk
  have larg1 := WholeBlock.load_unread harg1 x WholeBlock.zero2 inb_S10000x256_S10000x256_0_0
  have larg3 := WholeBlock.load_unread harg3 v WholeBlock.zero2 inb_S10000x1_S10000x1_0_0
  have lst3 := fun (w : Vec F S10000x1 .f32) (L : List (View.Piece (Elt F) S10000x1 .f32)) => WholeBlock.load_store arg3.view WholeBlock.zero2 inb_S10000x1_S10000x1_0_0 w L
  isplitl [H0]
  · iexists _; isplitr; · ipureintro; exact harg1.read_unread _
    iexact H0
  isplitl [H1]
  · iexists _; isplitr
    swap; · iexact H1
    ipureintro
    refine (WholeBlock.read_store _ _ WholeBlock.zero2 _ _ _).trans ?_
    simp only [larg1]
  isplitl [H2]
  · iexists _; isplitr
    swap; · iexact H2
    ipureintro
    refine (WholeBlock.read_store _ _ WholeBlock.zero2 _ _ _).trans ?_
    simp only [larg1, larg3, lst3]
  · iexists _; isplitr
    swap; · iexact H3
    ipureintro
    refine (WholeBlock.read_store _ _ WholeBlock.zero3 _ _ _).trans ?_
    simp only [larg1]

set_option maxHeartbeats 2000000 in
/-- At the last block: the vertex degrees gain its part, and their inverse roots are stored. -/
theorem run_last (c : Dev nD) (i : grid0.Coords) (arg1 : Memref sig .tc .vmem S10000x256 .f32) (harg1 : arg1.IsWhole) (arg2 : Memref sig .tc .vmem S10000x256 .bf16) (harg2 : arg2.IsWhole) (arg3 : Memref sig .tc .vmem S10000x1 .f32) (harg3 : arg3.IsWhole) (arg4 : Memref sig .tc .vmem S1x1x256 .f32) (harg4 : arg4.IsWhole)
    (hc1 : ¬k0_cond1 i = 1#1) (hc2 : k0_cond2 i = 1#1) (hc3 : k0_cond3 i = 1#1)
    (x : Vec F S10000x256 .f32) (v : Vec F S10000x1 .f32) (E : Set ℕ) (K : PUnit → sProp 𝕄) :
    iprop(owns (c : Thread nD τ) arg1 fullShare x ∗ (∃ d, owns (c : Thread nD τ) arg2 fullShare d) ∗ owns (c : Thread nD τ) arg3 fullShare v ∗ (∃ d, owns (c : Thread nD τ) arg4 fullShare d)
      ∗ (iprop(owns (c : Thread nD τ) arg1 fullShare x ∗ owns (c : Thread nD τ) arg2 fullShare (k0_pay2 i x) ∗ owns (c : Thread nD τ) arg3 fullShare (k0_pay6 (k0_pay5 i x v)) ∗ owns (c : Thread nD τ) arg4 fullShare (k0_pay3 i x)) -∗ K ⟨⟩))
      ⊢ wp frame (wpE (defs₀ (F := F)) Variants.none c none) E (cc0__deg_cast_body i arg1 harg1 arg2 harg2 arg3 harg3 arg4 harg4) K := by
  simp only [cc0__deg_cast_body_eq_skeleton]; unfold cc0__deg_cast_body_skel
  unfold owns
  iintro ⟨⟨%f0, %hf0, H0⟩, ⟨%d1, %f1, -, H1⟩, ⟨%f2, %hf2, H2⟩, ⟨%d3, %f3, -, H3⟩, Hk⟩
  obtain rfl := harg1.eq_unread hf0; obtain rfl := harg3.eq_unread hf2
  sl_exec (disch := first | sl_exact hc1 | sl_exact hc2 | sl_exact hc3)
  sl_step
  iapply Hk
  have larg1 := WholeBlock.load_unread harg1 x WholeBlock.zero2 inb_S10000x256_S10000x256_0_0
  have larg3 := WholeBlock.load_unread harg3 v WholeBlock.zero2 inb_S10000x1_S10000x1_0_0
  have lst3 := fun (w : Vec F S10000x1 .f32) (L : List (View.Piece (Elt F) S10000x1 .f32)) => WholeBlock.load_store arg3.view WholeBlock.zero2 inb_S10000x1_S10000x1_0_0 w L
  isplitl [H0]
  · iexists _; isplitr; · ipureintro; exact harg1.read_unread _
    iexact H0
  isplitl [H1]
  · iexists _; isplitr
    swap; · iexact H1
    ipureintro
    refine (WholeBlock.read_store _ _ WholeBlock.zero2 _ _ _).trans ?_
    simp only [larg1]
  isplitl [H2]
  · iexists _; isplitr
    swap; · iexact H2
    ipureintro
    refine (WholeBlock.read_store _ _ WholeBlock.zero2 _ _ _).trans ?_
    unfold run_last.sl.v31 run_last.sl.H2_1
    simp only [larg1, larg3, lst3]
  · iexists _; isplitr
    swap; · iexact H3
    ipureintro
    refine (WholeBlock.read_store _ _ WholeBlock.zero3 _ _ _).trans ?_
    simp only [larg1]

/-! ## What the windows hold -/

variable (V : Dev nD → Valuation τ sig (Elt F))

/-- The `n`-th grid point. -/
def pt (n : ℕ) : Fin cfg0.N := ⟨n % 20, by rw [show cfg0.N = 20 from N_0]; exact Nat.mod_lt _ (by decide)⟩

/-- A grid point is the one of its number. -/
theorem pt_val (t : Fin cfg0.N) : pt t.val = t :=
  Fin.ext (Nat.mod_eq_of_lt (lt_of_lt_of_eq t.isLt N_0))

/-- The part of the incidence block the fetch at point `t` moves, read off the array. -/
def xcut (c : Dev nD) (t : Fin cfg0.N) : (win0_0.xblock (grid0.coords t)).Idx → Elt F .f32 :=
  (win0_0.blk t).view.read (Elt F) (V c (Proc.devRef .tc (Pipeline.arrRef spec0 0)))

/-- The incidence block at point `t`, with zero beyond the part the fetch moves. -/
def xblk (c : Dev nD) (t : Fin cfg0.N) : Vec F S10000x256 .f32 :=
  win0_0.fill (grid0.coords t) (fun _ => Scalar.ofBits .f32 0x00000000#32) (xcut V c t)

/-- The vertex degrees after block `n`. -/
def dacc (c : Dev nD) : ℕ → Vec F S10000x1 .f32
  | 0 => k0_pay4 (grid0.coords (pt 0)) (xblk V c (pt 0))
  | n + 1 => k0_pay5 (grid0.coords (pt (n + 1))) (xblk V c (pt (n + 1))) (dacc c n)

/-- What the vertex degrees' buffer holds after block `t`: the degrees, at the last block their inverse roots. -/
def dout (c : Dev nD) (n : ℕ) : Vec F S10000x1 .f32 := if n = 19 then k0_pay6 (dacc V c 19) else dacc V c n

/-- The proof data of the call entered at the valuation `V c`. -/
def dat (c : Dev nD) : Dat τ (Elt F) Unit ℕ (UR sig nD τ) ℕ cfg0 c where
  A w := V c (Proc.devRef .tc (Pipeline.arrRef spec0 w))
  after w t := match w with
    | ⟨0, _⟩ => xblk V c t
    | ⟨1, _⟩ => k0_pay2 (grid0.coords t) (xblk V c t)
    | ⟨2, _⟩ => dout V c t.val
    | ⟨3, _⟩ => k0_pay3 (grid0.coords t) (xblk V c t)
  Φ t := Pipeline.scopedRest spec0 c
  q _ := fullShare
  owed _ := 0

/-- The arrays are the valuation's. -/
theorem A_eq (c : Dev nD) (w : Fin cfg0.W) : (dat V c).A w = V c (Proc.devRef .tc (Pipeline.arrRef spec0 w)) := by
  dsimp only [dat]

theorem after_0 (c : Dev nD) (t : Fin cfg0.N) : (dat V c).after 0 t = xblk V c t := by dsimp only [dat]
theorem after_1 (c : Dev nD) (t : Fin cfg0.N) : (dat V c).after 1 t = k0_pay2 (grid0.coords t) (xblk V c t) := by dsimp only [dat]
theorem after_2 (c : Dev nD) (t : Fin cfg0.N) : (dat V c).after 2 t = dout V c t.val := by dsimp only [dat]
theorem after_3 (c : Dev nD) (t : Fin cfg0.N) : (dat V c).after 3 t = k0_pay3 (grid0.coords t) (xblk V c t) := by dsimp only [dat]

/-- The input's buffer holds, when the body runs, the moved part over what it held. -/
theorem before_0 (c : Dev nD) (t : Fin cfg0.N) (d) :
    (dat V c).before 0 t d = win0_0.fill (grid0.coords t) d (xcut V c t) := by
  rw [(dat V c).before_fetched 0 t (fetch0_0 t) d]
  unfold Dat.fetched Dat.blockOf xcut; rw [A_eq]

/-- The vertex degrees' buffer is stored at every point. -/
theorem idle_2 (t : Fin cfg0.N) : cfg0.idle 2 (cfg0.grid.coords t) = false := by
  show (!(k0_cond1 (grid0.coords t) == 1#1) && !(k0_cond2 (grid0.coords t) == 1#1) && !(k0_cond3 (grid0.coords t) == 1#1)) = false
  by_cases h : t.val = 0
  · rw [(cond1_iff t).mpr h]; rfl
  · rw [(cond2_iff t).mpr h]; simp

/-- From the second point on the vertex degrees' buffer holds what the point before left. -/
theorem before_2 (c : Dev nD) (t : Fin cfg0.N) (ht : t.val ≠ 0) (d) :
    (dat V c).before 2 t d = dacc V c (t.val - 1) := by
  have hN : t.val < 20 := lt_of_lt_of_eq t.isLt (show cfg0.N = 20 from N_0)
  rw [(dat V c).before_of_pos 2 t ht rfl d,
    if_neg (show ¬(cfg0.win 2).flush ⟨t.val - 1, _⟩ = true from fun e => by have := (flush0_2 _).mp e; dsimp only at this; omega)]
  unfold Dat.left
  rw [idle_2]
  show (dat V c).after 2 ⟨t.val - 1, _⟩ = _
  rw [after_2]
  unfold dout
  rw [if_neg (by dsimp only; omega)]

/-! ## The body obligation -/

/-- What the body is called with at point `t`, window by window. -/
def bodyPre (c : Dev nD) (t : Fin cfg0.N) : sProp 𝕄 :=
  iprop((dat V c).Φ t.castSucc ∗ (dat V c).owesAt () t.castSucc
    ∗ (∃ d, owns (c : Thread nD τ) (win0_0.stage (cfg0.slots t 0)) fullShare ((dat V c).before 0 t d))
    ∗ (∃ d, owns (c : Thread nD τ) (win0_1.stage (cfg0.slots t 1)) fullShare ((dat V c).before 1 t d))
    ∗ (∃ d, owns (c : Thread nD τ) (win0_2.stage (cfg0.slots t 2)) fullShare ((dat V c).before 2 t d))
    ∗ (∃ d, owns (c : Thread nD τ) (win0_3.stage (cfg0.slots t 3)) fullShare ((dat V c).before 3 t d)))

/-- What the body returns at point `t`, window by window. -/
def bodyPost (c : Dev nD) (t : Fin cfg0.N) : sProp 𝕄 :=
  iprop((dat V c).Φ t.succ ∗ (dat V c).owesAt () t.succ
    ∗ (dat V c).leaves 0 t
    ∗ (dat V c).leaves 1 t
    ∗ (dat V c).leaves 2 t
    ∗ (dat V c).leaves 3 t)

/-- The input's buffer is left at the moved part over anything. -/
theorem leaves_0 (c : Dev nD) (t : Fin cfg0.N) :
    (dat V c).leaves 0 t = iprop(∃ d, owns (c : Thread nD τ) (win0_0.stage (cfg0.slots t 0)) fullShare (win0_0.fill (grid0.coords t) d (xcut V c t))) := by
  unfold Dat.leaves
  rw [show cfg0.idle 0 (cfg0.grid.coords t) = false from rfl, show cfg0.loose 0 = true from rfl, after_0]
  show iprop(∃ d, owns (c : Thread nD τ) (win0_0.stage (cfg0.slots t 0)) fullShare (win0_0.fill (grid0.coords t) d (win0_0.cut (grid0.coords t) (xblk V c t)))) = _
  unfold xblk
  rw [win0_0.cut_fill]
/-- The incidence output's buffer is left at the stored block. -/
theorem leaves_1 (c : Dev nD) (t : Fin cfg0.N) :
    (dat V c).leaves 1 t = owns (c : Thread nD τ) (win0_1.stage (cfg0.slots t 1)) fullShare (k0_pay2 (grid0.coords t) (xblk V c t)) := by
  unfold Dat.leaves
  rw [show cfg0.idle 1 (cfg0.grid.coords t) = false from rfl, show cfg0.loose 1 = false from rfl, after_1]
/-- The vertex degrees' buffer is left at the degrees, at the last block at their inverse roots. -/
theorem leaves_2 (c : Dev nD) (t : Fin cfg0.N) :
    (dat V c).leaves 2 t = owns (c : Thread nD τ) (win0_2.stage (cfg0.slots t 2)) fullShare (dout V c t.val) := by
  unfold Dat.leaves
  rw [idle_2, show cfg0.loose 2 = false from rfl, after_2]
/-- The hyperedge degrees' buffer is left at the block's inverse degrees. -/
theorem leaves_3 (c : Dev nD) (t : Fin cfg0.N) :
    (dat V c).leaves 3 t = owns (c : Thread nD τ) (win0_3.stage (cfg0.slots t 3)) fullShare (k0_pay3 (grid0.coords t) (xblk V c t)) := by
  unfold Dat.leaves
  rw [show cfg0.idle 3 (cfg0.grid.coords t) = false from rfl, show cfg0.loose 3 = false from rfl, after_3]

set_option maxHeartbeats 4000000 in
/-- The body at any point: the case the point is in applies, and what it leaves is what the data name. -/
theorem sound_body (c : Dev nD) (t : Fin cfg0.N) :
    bodyPre V c t ⊢ wp frame (wpE (defs₀ (F := F)) Variants.none c none) Set.univ (bodyAt0 t) (fun _ => bodyPost V c t) := by
  have hN : t.val < 20 := lt_of_lt_of_eq t.isLt (show cfg0.N = 20 from N_0)
  unfold bodyPre bodyPost bodyAt0
  rw [show (dat V c).owesAt () t.succ = (dat V c).owesAt () t.castSucc from rfl,
    show (dat V c).Φ t.castSucc = Pipeline.scopedRest spec0 c from rfl, show (dat V c).Φ t.succ = Pipeline.scopedRest spec0 c from rfl,
    leaves_0, leaves_1, leaves_2, leaves_3]
  simp only [before_0]
  by_cases h0 : t.val = 0
  · have hp : pt 0 = t := by rw [← pt_val t, h0]
    rw [show dout V c t.val = k0_pay4 (grid0.coords t) (xblk V c t) from by rw [h0, dout, if_neg (by decide), dacc, hp]]
    iintro ⟨Hr, Ho, ⟨%d0, H0⟩, ⟨%d1, H1⟩, ⟨%d2, H2⟩, ⟨%d3, H3⟩⟩
    rw [show k0_pay2 (grid0.coords t) (xblk V c t) = k0_pay2 (grid0.coords t) (win0_0.fill (grid0.coords t) d0 (xcut V c t)) from pay2_fill _ _ _ _,
      show k0_pay3 (grid0.coords t) (xblk V c t) = k0_pay3 (grid0.coords t) (win0_0.fill (grid0.coords t) d0 (xcut V c t)) from pay3_fill _ _ _ _,
      show k0_pay4 (grid0.coords t) (xblk V c t) = k0_pay4 (grid0.coords t) (win0_0.fill (grid0.coords t) d0 (xcut V c t)) from pay4_fill _ _ _ _]
    iapply (run_first c (grid0.coords t) _ _ _ _ _ _ _ _ ((cond1_iff t).mpr h0) (fun h => (cond2_iff t).mp h h0) (fun h => by have := (cond3_iff t).mp h; omega) (win0_0.fill (grid0.coords t) d0 (xcut V c t)) Set.univ _)
    isplitl [H0]; · iexact H0
    isplitl [H1]; · iexists _; iexact H1
    isplitl [H2]; · iexists _; iexact H2
    isplitl [H3]; · iexists _; iexact H3
    iintro ⟨H0, H1, H2, H3⟩
    isplitl [Hr]; · iexact Hr
    isplitl [Ho]; · iexact Ho
    isplitl [H0]; · iexists d0; iexact H0
    isplitl [H1]; · iexact H1
    isplitl [H2]; · iexact H2
    iexact H3
  · obtain ⟨n, hn⟩ : ∃ n, t.val = n + 1 := ⟨t.val - 1, by omega⟩
    have hacc : dacc V c t.val = k0_pay5 (grid0.coords t) (xblk V c t) (dacc V c (t.val - 1)) := by
      have ep : pt (n + 1) = t := by rw [← hn, pt_val]
      rw [hn, Nat.add_sub_cancel, dacc, ep]
    simp only [before_2 V c t h0]
    by_cases h19 : t.val = 19
    · rw [show dout V c t.val = k0_pay6 (k0_pay5 (grid0.coords t) (xblk V c t) (dacc V c (t.val - 1))) from by
        rw [← hacc, dout, if_pos h19, h19]]
      iintro ⟨Hr, Ho, ⟨%d0, H0⟩, ⟨%d1, H1⟩, ⟨%d2, H2⟩, ⟨%d3, H3⟩⟩
      rw [show k0_pay2 (grid0.coords t) (xblk V c t) = k0_pay2 (grid0.coords t) (win0_0.fill (grid0.coords t) d0 (xcut V c t)) from pay2_fill _ _ _ _,
        show k0_pay3 (grid0.coords t) (xblk V c t) = k0_pay3 (grid0.coords t) (win0_0.fill (grid0.coords t) d0 (xcut V c t)) from pay3_fill _ _ _ _,
        show k0_pay5 (grid0.coords t) (xblk V c t) (dacc V c (t.val - 1)) = k0_pay5 (grid0.coords t) (win0_0.fill (grid0.coords t) d0 (xcut V c t)) (dacc V c (t.val - 1)) from pay5_fill _ _ _ _ _]
      iapply (run_last c (grid0.coords t) _ _ _ _ _ _ _ _ (fun h => h0 ((cond1_iff t).mp h)) ((cond2_iff t).mpr h0) ((cond3_iff t).mpr h19) (win0_0.fill (grid0.coords t) d0 (xcut V c t)) (dacc V c (t.val - 1)) Set.univ _)
      isplitl [H0]; · iexact H0
      isplitl [H1]; · iexists _; iexact H1
      isplitl [H2]; · iexact H2
      isplitl [H3]; · iexists _; iexact H3
      iintro ⟨H0, H1, H2, H3⟩
      isplitl [Hr]; · iexact Hr
      isplitl [Ho]; · iexact Ho
      isplitl [H0]; · iexists d0; iexact H0
      isplitl [H1]; · iexact H1
      isplitl [H2]; · iexact H2
      iexact H3
    · rw [show dout V c t.val = k0_pay5 (grid0.coords t) (xblk V c t) (dacc V c (t.val - 1)) from by
        rw [← hacc, dout, if_neg h19]]
      iintro ⟨Hr, Ho, ⟨%d0, H0⟩, ⟨%d1, H1⟩, ⟨%d2, H2⟩, ⟨%d3, H3⟩⟩
      rw [show k0_pay2 (grid0.coords t) (xblk V c t) = k0_pay2 (grid0.coords t) (win0_0.fill (grid0.coords t) d0 (xcut V c t)) from pay2_fill _ _ _ _,
        show k0_pay3 (grid0.coords t) (xblk V c t) = k0_pay3 (grid0.coords t) (win0_0.fill (grid0.coords t) d0 (xcut V c t)) from pay3_fill _ _ _ _,
        show k0_pay5 (grid0.coords t) (xblk V c t) (dacc V c (t.val - 1)) = k0_pay5 (grid0.coords t) (win0_0.fill (grid0.coords t) d0 (xcut V c t)) (dacc V c (t.val - 1)) from pay5_fill _ _ _ _ _]
      iapply (run_mid c (grid0.coords t) _ _ _ _ _ _ _ _ (fun h => h0 ((cond1_iff t).mp h)) ((cond2_iff t).mpr h0) (fun h => h19 ((cond3_iff t).mp h)) (win0_0.fill (grid0.coords t) d0 (xcut V c t)) (dacc V c (t.val - 1)) Set.univ _)
      isplitl [H0]; · iexact H0
      isplitl [H1]; · iexists _; iexact H1
      isplitl [H2]; · iexact H2
      isplitl [H3]; · iexists _; iexact H3
      iintro ⟨H0, H1, H2, H3⟩
      isplitl [Hr]; · iexact Hr
      isplitl [Ho]; · iexact Ho
      isplitl [H0]; · iexists d0; iexact H0
      isplitl [H1]; · iexact H1
      isplitl [H2]; · iexact H2
      iexact H3

/-- The call's body at point `t` is the degree body on the windows' buffers. -/
theorem defs₀_row (t : Fin cfg0.N) :
    defs₀ (F := F) .tc cfg0.body (cfg0.bodyArgs t (cfg0.slots t)) = bodyAt0 t := by
  unfold defs₀; rw [Defs.onTc_tc]

/-- The body meets its obligation at every point. -/
theorem body_obligation (c : Dev nD) : BodyObligationLoose (dat (F := F) V c) (defs₀ (F := F)) Variants.none () Set.univ := fun t => by
  rw [bigSep_W0, bigSep_W0, defs₀_row]
  exact triple_restated (sound_body V c t) rfl .rfl fun _ => .rfl

end Cert.Proof.DegCast

end
-- ==== Proof.Layer1.lean ====
/-
  The kernel call of the first layer (`cc1__layer_body`, a grid of 8 blocks of 640 hyperedges), run at any contents of its arrays.

  At the first block the body prepares the transposed scaled input in one scratch buffer and clears the accumulator, at
  every block it adds the block's contribution to the accumulator, and at the last block it forms the layer's output.
  The two scratch buffers pass from block to block, so the invariant names what they hold.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.WholeBlock
public import Idealize.ShloMosaic.Lib.Ring
public import Idealize.ShloMosaic.Lib.Tactic
public import Idealize.ShloMosaic.Lib.WordCmp

@[expose] public section

set_option maxRecDepth 16384

noncomputable section

namespace Cert.Proof.Layer1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions -/

/-- The body's condition for preparing the scratch buffers. -/
abbrev condFirst (i : grid1.Coords) : Prop :=
  (Scalar.cmpi .ne (Scalar.extui (Scalar.cmpi .eq (BitVec.ofNat 32 (i 0).val) 0#32)) 0#32) = 1#1
/-- The body's condition for forming the output. -/
abbrev condLast (i : grid1.Coords) : Prop := k1_cond2 i = 1#1

/-- The scratch buffers are prepared at the first block only. -/
theorem condFirst_iff : ∀ t : Fin cfg1.N, condFirst (grid1.coords t) ↔ t.val % 8 = 0 :=
  (fun t => by
    have ht : t.val < 8 := Nat.lt_of_lt_of_eq t.isLt N_1
    have e0 : (grid1.coords t 0).val = t.val / 1 % 8 := Pipeline.Grid.coords_val t 0 (by decide) rfl
    simp only [condFirst, e0]
    word_cmp
   : ∀ t : Fin grid1.N, condFirst (grid1.coords t) ↔ t.val % 8 = 0)

/-- The output is formed at the last block only. -/
theorem condLast_iff : ∀ t : Fin cfg1.N, condLast (grid1.coords t) ↔ t.val % 8 = 7 :=
  (fun t => by
    have ht : t.val < 8 := Nat.lt_of_lt_of_eq t.isLt N_1
    have e0 : (grid1.coords t 0).val = t.val / 1 % 8 := Pipeline.Grid.coords_val t 0 (by decide) rfl
    simp only [condLast, k1_cond2, e0]
    word_cmp
   : ∀ t : Fin grid1.N, condLast (grid1.coords t) ↔ t.val % 8 = 7)

/-! ## The body, case by case -/

set_option maxHeartbeats 2000000 in
/-- At the first block: the transposed scaled input is stored, and the accumulator holds the first block's contribution over zero. -/
theorem run_first (c : Dev nD) (i : grid1.Coords) (arg1 : Memref sig .tc .vmem S10000x128 .f32) (harg1 : arg1.IsWhole) (arg2 : Memref sig .tc .vmem S10000x640 .bf16) (harg2 : arg2.IsWhole) (arg3 : Memref sig .tc .vmem S1x1x640 .f32) (harg3 : arg3.IsWhole) (arg4 : Memref sig .tc .vmem S10000x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S10000x128 .f32) (harg7 : arg7.IsWhole) (arg8 : Memref sig .tc .vmem S128x10000 .bf16) (harg8 : arg8.IsWhole) (arg9 : Memref sig .tc .vmem S10000x128 .f32) (harg9 : arg9.IsWhole)
    (hc0 : condFirst i) (hc1 : ¬condLast i)
    (x0 : Vec F S10000x128 .f32) (x1 : Vec F S10000x640 .bf16) (x2 : Vec F S1x1x640 .f32) (x3 : Vec F S10000x1 .f32) (x4 : Vec F S128x128 .f32) (x5 : Vec F S1x128 .f32) (x6 : Vec F S10000x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d)
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (k1_pay1 x0 x3) ∗ owns (c : Thread nD τ) arg9 fullShare (k1_pay3 x1 (k1_pay1 x0 x3) x2 k1_pay2)) -∗ K ⟨⟩))
      ⊢ wp frame (wpE (defs₀ (F := F)) Variants.none c none) E (cc1__layer_body i arg1 harg1 arg2 harg2 arg3 harg3 arg4 harg4 arg5 harg5 arg6 harg6 arg7 harg7 arg8 harg8 arg9 harg9) K := by
  simp only [cc1__layer_body_eq_skeleton]; unfold cc1__layer_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  sl_exec (disch := first | sl_exact hc0 | sl_exact hc1)
  sl_step
  iapply Hk
  have larg1 := WholeBlock.load_unread harg1 x0 WholeBlock.zero2 inb_S10000x128_S10000x128_0_0
  have larg2 := WholeBlock.load_unread harg2 x1 WholeBlock.zero2 inb_S10000x640_S10000x640_0_0
  have larg3 := WholeBlock.load_unread harg3 x2 WholeBlock.zero3 inb_S1x1x640_S1x1x640_0_0_0
  have larg4 := WholeBlock.load_unread harg4 x3 WholeBlock.zero2 inb_S10000x1_S10000x1_0_0
  have larg5 := WholeBlock.load_unread harg5 x4 WholeBlock.zero2 inb_S128x128_S128x128_0_0
  have larg6 := WholeBlock.load_unread harg6 x5 WholeBlock.zero2 inb_S1x128_S1x128_0_0
  have lst9 := fun (w : Vec F S10000x128 .f32) (L : List (View.Piece (Elt F) S10000x128 .f32)) => WholeBlock.load_store arg9.view WholeBlock.zero2 inb_S10000x128_S10000x128_0_0 w L
  have lst8 := fun (w : Vec F S128x10000 .bf16) (L : List (View.Piece (Elt F) S128x10000 .bf16)) => WholeBlock.load_store arg8.view WholeBlock.zero2 inb_S128x10000_S128x10000_0_0 w L
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact hf6
    iexact H6
  isplitl [HS0]
  · iexists _; isplitr
    swap; · iexact HS0
    ipureintro
    refine (WholeBlock.read_store _ _ WholeBlock.zero2 _ _ _).trans ?_

    simp only [larg1, larg2, larg3, larg4, larg5, larg6, lst8, lst9]
  · iexists _; isplitr
    swap; · iexact HS1
    ipureintro
    refine (WholeBlock.read_store _ _ WholeBlock.zero2 _ _ _).trans ?_
    unfold run_first.sl.v5 run_first.sl.v13 run_first.sl.HS0_1 run_first.sl.HS1_1

    simp only [larg1, larg2, larg3, larg4, larg5, larg6, lst8, lst9]

set_option maxHeartbeats 2000000 in
/-- At a block that is neither first nor last: the accumulator gains the block's contribution. -/
theorem run_mid (c : Dev nD) (i : grid1.Coords) (arg1 : Memref sig .tc .vmem S10000x128 .f32) (harg1 : arg1.IsWhole) (arg2 : Memref sig .tc .vmem S10000x640 .bf16) (harg2 : arg2.IsWhole) (arg3 : Memref sig .tc .vmem S1x1x640 .f32) (harg3 : arg3.IsWhole) (arg4 : Memref sig .tc .vmem S10000x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S10000x128 .f32) (harg7 : arg7.IsWhole) (arg8 : Memref sig .tc .vmem S128x10000 .bf16) (harg8 : arg8.IsWhole) (arg9 : Memref sig .tc .vmem S10000x128 .f32) (harg9 : arg9.IsWhole)
    (hc0 : ¬condFirst i) (hc1 : ¬condLast i)
    (x0 : Vec F S10000x128 .f32) (x1 : Vec F S10000x640 .bf16) (x2 : Vec F S1x1x640 .f32) (x3 : Vec F S10000x1 .f32) (x4 : Vec F S128x128 .f32) (x5 : Vec F S1x128 .f32) (x6 : Vec F S10000x128 .f32) (xs0 : Vec F S128x10000 .bf16) (xs1 : Vec F S10000x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xs0 ∗ owns (c : Thread nD τ) arg9 fullShare xs1
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xs0 ∗ owns (c : Thread nD τ) arg9 fullShare (k1_pay3 x1 xs0 x2 xs1)) -∗ K ⟨⟩))
      ⊢ wp frame (wpE (defs₀ (F := F)) Variants.none c none) E (cc1__layer_body i arg1 harg1 arg2 harg2 arg3 harg3 arg4 harg4 arg5 harg5 arg6 harg6 arg7 harg7 arg8 harg8 arg9 harg9) K := by
  simp only [cc1__layer_body_eq_skeleton]; unfold cc1__layer_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg8.eq_unread hfs0; obtain rfl := harg9.eq_unread hfs1
  sl_exec (disch := first | sl_exact hc0 | sl_exact hc1)
  sl_step
  iapply Hk
  have larg1 := WholeBlock.load_unread harg1 x0 WholeBlock.zero2 inb_S10000x128_S10000x128_0_0
  have larg2 := WholeBlock.load_unread harg2 x1 WholeBlock.zero2 inb_S10000x640_S10000x640_0_0
  have larg3 := WholeBlock.load_unread harg3 x2 WholeBlock.zero3 inb_S1x1x640_S1x1x640_0_0_0
  have larg4 := WholeBlock.load_unread harg4 x3 WholeBlock.zero2 inb_S10000x1_S10000x1_0_0
  have larg5 := WholeBlock.load_unread harg5 x4 WholeBlock.zero2 inb_S128x128_S128x128_0_0
  have larg6 := WholeBlock.load_unread harg6 x5 WholeBlock.zero2 inb_S1x128_S1x128_0_0
  have larg8 := WholeBlock.load_unread harg8 xs0 WholeBlock.zero2 inb_S128x10000_S128x10000_0_0
  have larg9 := WholeBlock.load_unread harg9 xs1 WholeBlock.zero2 inb_S10000x128_S10000x128_0_0
  have lst9 := fun (w : Vec F S10000x128 .f32) (L : List (View.Piece (Elt F) S10000x128 .f32)) => WholeBlock.load_store arg9.view WholeBlock.zero2 inb_S10000x128_S10000x128_0_0 w L
  have lst8 := fun (w : Vec F S128x10000 .bf16) (L : List (View.Piece (Elt F) S128x10000 .bf16)) => WholeBlock.load_store arg8.view WholeBlock.zero2 inb_S128x10000_S128x10000_0_0 w L
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact hf6
    iexact H6
  isplitl [HS0]
  · iexists _; isplitr; · ipureintro; exact harg8.read_unread _
    iexact HS0
  · iexists _; isplitr
    swap; · iexact HS1
    ipureintro
    refine (WholeBlock.read_store _ _ WholeBlock.zero2 _ _ _).trans ?_

    simp only [larg1, larg2, larg3, larg4, larg5, larg6, larg8, larg9, lst8, lst9]

set_option maxHeartbeats 2000000 in
/-- At the last block: the accumulator gains the block's contribution, and the output is formed from it. -/
theorem run_last (c : Dev nD) (i : grid1.Coords) (arg1 : Memref sig .tc .vmem S10000x128 .f32) (harg1 : arg1.IsWhole) (arg2 : Memref sig .tc .vmem S10000x640 .bf16) (harg2 : arg2.IsWhole) (arg3 : Memref sig .tc .vmem S1x1x640 .f32) (harg3 : arg3.IsWhole) (arg4 : Memref sig .tc .vmem S10000x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S10000x128 .f32) (harg7 : arg7.IsWhole) (arg8 : Memref sig .tc .vmem S128x10000 .bf16) (harg8 : arg8.IsWhole) (arg9 : Memref sig .tc .vmem S10000x128 .f32) (harg9 : arg9.IsWhole)
    (hc0 : ¬condFirst i) (hc1 : condLast i)
    (x0 : Vec F S10000x128 .f32) (x1 : Vec F S10000x640 .bf16) (x2 : Vec F S1x1x640 .f32) (x3 : Vec F S10000x1 .f32) (x4 : Vec F S128x128 .f32) (x5 : Vec F S1x128 .f32) (x6 : Vec F S10000x128 .f32) (xs0 : Vec F S128x10000 .bf16) (xs1 : Vec F S10000x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xs0 ∗ owns (c : Thread nD τ) arg9 fullShare xs1
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (k1_pay4 (k1_pay3 x1 xs0 x2 xs1) x3 x4 x5) ∗ owns (c : Thread nD τ) arg8 fullShare xs0 ∗ owns (c : Thread nD τ) arg9 fullShare (k1_pay3 x1 xs0 x2 xs1)) -∗ K ⟨⟩))
      ⊢ wp frame (wpE (defs₀ (F := F)) Variants.none c none) E (cc1__layer_body i arg1 harg1 arg2 harg2 arg3 harg3 arg4 harg4 arg5 harg5 arg6 harg6 arg7 harg7 arg8 harg8 arg9 harg9) K := by
  simp only [cc1__layer_body_eq_skeleton]; unfold cc1__layer_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg8.eq_unread hfs0; obtain rfl := harg9.eq_unread hfs1
  sl_exec (disch := first | sl_exact hc0 | sl_exact hc1)
  sl_step
  iapply Hk
  have larg1 := WholeBlock.load_unread harg1 x0 WholeBlock.zero2 inb_S10000x128_S10000x128_0_0
  have larg2 := WholeBlock.load_unread harg2 x1 WholeBlock.zero2 inb_S10000x640_S10000x640_0_0
  have larg3 := WholeBlock.load_unread harg3 x2 WholeBlock.zero3 inb_S1x1x640_S1x1x640_0_0_0
  have larg4 := WholeBlock.load_unread harg4 x3 WholeBlock.zero2 inb_S10000x1_S10000x1_0_0
  have larg5 := WholeBlock.load_unread harg5 x4 WholeBlock.zero2 inb_S128x128_S128x128_0_0
  have larg6 := WholeBlock.load_unread harg6 x5 WholeBlock.zero2 inb_S1x128_S1x128_0_0
  have larg8 := WholeBlock.load_unread harg8 xs0 WholeBlock.zero2 inb_S128x10000_S128x10000_0_0
  have larg9 := WholeBlock.load_unread harg9 xs1 WholeBlock.zero2 inb_S10000x128_S10000x128_0_0
  have lst9 := fun (w : Vec F S10000x128 .f32) (L : List (View.Piece (Elt F) S10000x128 .f32)) => WholeBlock.load_store arg9.view WholeBlock.zero2 inb_S10000x128_S10000x128_0_0 w L
  have lst8 := fun (w : Vec F S128x10000 .bf16) (L : List (View.Piece (Elt F) S128x10000 .bf16)) => WholeBlock.load_store arg8.view WholeBlock.zero2 inb_S128x10000_S128x10000_0_0 w L
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr
    swap; · iexact H6
    ipureintro
    refine (WholeBlock.read_store _ _ WholeBlock.zero2 _ _ _).trans ?_
    unfold run_last.sl.v22 run_last.sl.HS1_1

    simp only [larg1, larg2, larg3, larg4, larg5, larg6, larg8, larg9, lst8, lst9]
  isplitl [HS0]
  · iexists _; isplitr; · ipureintro; exact harg8.read_unread _
    iexact HS0
  · iexists _; isplitr
    swap; · iexact HS1
    ipureintro
    refine (WholeBlock.read_store _ _ WholeBlock.zero2 _ _ _).trans ?_

    simp only [larg1, larg2, larg3, larg4, larg5, larg6, larg8, larg9, lst8, lst9]

/-! ## What the scratch buffers and the output hold -/

variable (V : Dev nD → Valuation τ sig (Elt F))

/-- Window `w`'s block at point `t`, read off its array. -/
def iblk (c : Dev nD) (w : Fin cfg1.W) (t : Fin cfg1.N) : ((cfg1.win w).xblock (cfg1.grid.coords t)).Idx → Elt F (cfg1.win w).elt :=
  ((cfg1.win w).blk t).view.read (Elt F) (V c (Proc.devRef .tc (Pipeline.arrRef spec1 w)))

/-- The `n`-th grid point. -/
def pt (n : ℕ) : Fin cfg1.N := ⟨n % 8, by rw [show cfg1.N = 8 from N_1]; exact Nat.mod_lt _ (by decide)⟩

/-- A grid point is the one of its number. -/
theorem pt_val (t : Fin cfg1.N) : pt t.val = t :=
  Fin.ext (Nat.mod_eq_of_lt (lt_of_lt_of_eq t.isLt N_1))

/-- The transposed scaled input, as the first block stores it. -/
def sT (c : Dev nD) : Vec F S128x10000 .bf16 := k1_pay1 (iblk V c 0 (pt 0)) (iblk V c 3 (pt 0))

/-- The accumulator after the first `n` blocks. -/
def acc (c : Dev nD) : ℕ → Vec F S10000x128 .f32
  | 0 => k1_pay2
  | n + 1 => k1_pay3 (iblk V c 1 (pt n)) (sT V c) (iblk V c 2 (pt n)) (acc c n)

/-- The layer's output, as the last block forms it. -/
def out (c : Dev nD) : Vec F S10000x128 .f32 :=
  k1_pay4 (acc V c 8) (iblk V c 3 (pt 7)) (iblk V c 4 (pt 7)) (iblk V c 5 (pt 7))

/-! ## The invariant and the proof data -/

/-- The buffers of the call that neither a window stages nor the body uses as scratch. -/
abbrev restBut (c : Dev nD) : sProp 𝕄 := Pipeline.scopedRestBut (Ix := Unit) (Name := ℕ) (U := UR sig nD τ) (Lvl := ℕ) (Val := Elt F) spec1 c [cc1_scratch0, cc1_scratch1]

/-- Before block `n`: at the start every scratch buffer at anything; later the two scratch buffers at the transposed scaled
    input and at the accumulator after `n` blocks. -/
def PhiS (c : Dev nD) : ℕ → sProp 𝕄
  | 0 => Pipeline.scopedRest spec1 c
  | n + 1 => iprop(iprop(owns (c : Thread nD τ) (Memref.whole cc1_scratch0) fullShare (sT V c)
      ∗ owns (c : Thread nD τ) (Memref.whole cc1_scratch1) fullShare (acc V c (n + 1))) ∗ restBut c)

/-- The proof data of the call entered at the valuation `V c`: each input's buffer holds its block, the output's buffer
    ends at the layer's output. -/
def dat (c : Dev nD) : Dat τ (Elt F) Unit ℕ (UR sig nD τ) ℕ cfg1 c where
  A w := V c (Proc.devRef .tc (Pipeline.arrRef spec1 w))
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => out V c
  Φ t := PhiS V c t.val
  q _ := fullShare
  owed _ := 0

/-- The arrays are the valuation's. -/
theorem A_eq (c : Dev nD) (w : Fin cfg1.W) : (dat V c).A w = V c (Proc.devRef .tc (Pipeline.arrRef spec1 w)) := by
  dsimp only [dat]

/-- The scoped buffers no window stages, with the two scratch buffers as owned memrefs. -/
theorem scopedRest_eq (c : Dev nD) :
    (Pipeline.scopedRest spec1 c : sProp 𝕄)
      = iprop(iprop((∃ d, owns (c : Thread nD τ) (Memref.whole cc1_scratch0) fullShare d) ∗ (∃ d, owns (c : Thread nD τ) (Memref.whole cc1_scratch1) fullShare d)) ∗ restBut c) := by
  rw [scopedRest1_split]; simp only [owns_whole]; try rfl

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = iblk V c 4 t := by dsimp only [dat]
theorem after_5 (c : Dev nD) (t : Fin cfg1.N) : (dat V c).after 5 t = iblk V c 5 t := by dsimp only [dat]
theorem after_6 (c : Dev nD) (t : Fin cfg1.N) : (dat V c).after 6 t = out V c := by dsimp only [dat]

/-- Input window 0's buffer holds its block when the body runs. -/
theorem before_0 (c : Dev nD) (t : Fin cfg1.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
/-- Input window 1's buffer holds its block when the body runs. -/
theorem before_1 (c : Dev nD) (t : Fin cfg1.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
/-- Input window 2's buffer holds its block when the body runs. -/
theorem before_2 (c : Dev nD) (t : Fin cfg1.N) (d) : (dat V c).before 2 t d = iblk V c 2 t :=
  ((dat V c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
/-- Input window 3's buffer holds its block when the body runs. -/
theorem before_3 (c : Dev nD) (t : Fin cfg1.N) (d) : (dat V c).before 3 t d = iblk V c 3 t :=
  ((dat V c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
/-- Input window 4's buffer holds its block when the body runs. -/
theorem before_4 (c : Dev nD) (t : Fin cfg1.N) (d) : (dat V c).before 4 t d = iblk V c 4 t :=
  ((dat V c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
/-- Input window 5's buffer holds its block when the body runs. -/
theorem before_5 (c : Dev nD) (t : Fin cfg1.N) (d) : (dat V c).before 5 t d = iblk V c 5 t :=
  ((dat V c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)

/-- An input window's buffer is left at its block. -/
theorem leaves_0 (c : Dev nD) (t : Fin cfg1.N) :
    (dat V c).leavesExact 0 t = owns (c : Thread nD τ) (win1_0.stage (cfg1.slots t 0)) fullShare (iblk V c 0 t) := by
  unfold Dat.leavesExact; rw [show cfg1.idle 0 (cfg1.grid.coords t) = false from rfl, after_0]
/-- An input window's buffer is left at its block. -/
theorem leaves_1 (c : Dev nD) (t : Fin cfg1.N) :
    (dat V c).leavesExact 1 t = owns (c : Thread nD τ) (win1_1.stage (cfg1.slots t 1)) fullShare (iblk V c 1 t) := by
  unfold Dat.leavesExact; rw [show cfg1.idle 1 (cfg1.grid.coords t) = false from rfl, after_1]
/-- An input window's buffer is left at its block. -/
theorem leaves_2 (c : Dev nD) (t : Fin cfg1.N) :
    (dat V c).leavesExact 2 t = owns (c : Thread nD τ) (win1_2.stage (cfg1.slots t 2)) fullShare (iblk V c 2 t) := by
  unfold Dat.leavesExact; rw [show cfg1.idle 2 (cfg1.grid.coords t) = false from rfl, after_2]
/-- An input window's buffer is left at its block. -/
theorem leaves_3 (c : Dev nD) (t : Fin cfg1.N) :
    (dat V c).leavesExact 3 t = owns (c : Thread nD τ) (win1_3.stage (cfg1.slots t 3)) fullShare (iblk V c 3 t) := by
  unfold Dat.leavesExact; rw [show cfg1.idle 3 (cfg1.grid.coords t) = false from rfl, after_3]
/-- An input window's buffer is left at its block. -/
theorem leaves_4 (c : Dev nD) (t : Fin cfg1.N) :
    (dat V c).leavesExact 4 t = owns (c : Thread nD τ) (win1_4.stage (cfg1.slots t 4)) fullShare (iblk V c 4 t) := by
  unfold Dat.leavesExact; rw [show cfg1.idle 4 (cfg1.grid.coords t) = false from rfl, after_4]
/-- An input window's buffer is left at its block. -/
theorem leaves_5 (c : Dev nD) (t : Fin cfg1.N) :
    (dat V c).leavesExact 5 t = owns (c : Thread nD τ) (win1_5.stage (cfg1.slots t 5)) fullShare (iblk V c 5 t) := by
  unfold Dat.leavesExact; rw [show cfg1.idle 5 (cfg1.grid.coords t) = false from rfl, after_5]
/-- Before the last block the output's buffer is left as it was found. -/
theorem leaves_6_idle (c : Dev nD) (t : Fin cfg1.N) (h : ¬t.val % 8 = 7) :
    (dat V c).leavesExact 6 t = iprop(∃ d, owns (c : Thread nD τ) (win1_6.stage (cfg1.slots t 6)) fullShare ((dat V c).before 6 t d)) :=
  (dat V c).leavesExact_idle 6 t
    (show (!(k1_cond2 (grid1.coords t) == 1#1)) = true by
      have h' : ¬k1_cond2 (grid1.coords t) = 1#1 := fun e => h ((condLast_iff t).mp e)
      simpa using h')
    (Bool.eq_false_iff.mpr fun e => h ((flush1_6 t).mp e))
/-- At the last block the output's buffer is left at the layer's output. -/
theorem leaves_6_last (c : Dev nD) (t : Fin cfg1.N) (h : t.val % 8 = 7) :
    (dat V c).leavesExact 6 t = owns (c : Thread nD τ) (win1_6.stage (cfg1.slots t 6)) fullShare (out V c) := by
  unfold Dat.leavesExact
  rw [show cfg1.idle 6 (cfg1.grid.coords t) = false from by
    show (!(k1_cond2 (grid1.coords t) == 1#1)) = false
    have h' : k1_cond2 (grid1.coords t) = 1#1 := (condLast_iff t).mpr h
    simpa using h', after_6]

/-! ## The body obligation -/

/-- What the body is called with at point `t`, window by window. -/
def bodyPre (c : Dev nD) (t : Fin cfg1.N) : sProp 𝕄 :=
  iprop((dat V c).Φ t.castSucc ∗ (dat V c).owesAt () t.castSucc
    ∗ (∃ d, owns (c : Thread nD τ) (win1_0.stage (cfg1.slots t 0)) fullShare ((dat V c).before 0 t d))
    ∗ (∃ d, owns (c : Thread nD τ) (win1_1.stage (cfg1.slots t 1)) fullShare ((dat V c).before 1 t d))
    ∗ (∃ d, owns (c : Thread nD τ) (win1_2.stage (cfg1.slots t 2)) fullShare ((dat V c).before 2 t d))
    ∗ (∃ d, owns (c : Thread nD τ) (win1_3.stage (cfg1.slots t 3)) fullShare ((dat V c).before 3 t d))
    ∗ (∃ d, owns (c : Thread nD τ) (win1_4.stage (cfg1.slots t 4)) fullShare ((dat V c).before 4 t d))
    ∗ (∃ d, owns (c : Thread nD τ) (win1_5.stage (cfg1.slots t 5)) fullShare ((dat V c).before 5 t d))
    ∗ (∃ d, owns (c : Thread nD τ) (win1_6.stage (cfg1.slots t 6)) fullShare ((dat V c).before 6 t d)))

/-- What the body returns at point `t`, window by window. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t)

set_option maxHeartbeats 4000000 in
/-- The body at any point: the case the point is in applies, and what it leaves is what the invariant names. -/
theorem sound_body (c : Dev nD) (t : Fin cfg1.N) :
    bodyPre V c t ⊢ wp frame (wpE (defs₀ (F := F)) Variants.none c none) Set.univ (bodyAt1 t) (fun _ => bodyPost V c t) := by
  have hN : t.val < 8 := lt_of_lt_of_eq t.isLt (show cfg1.N = 8 from N_1)
  unfold bodyPre bodyPost bodyAt1
  simp only [before_0, before_1, before_2, before_3, before_4, before_5]
  rw [show (dat V c).owesAt () t.succ = (dat V c).owesAt () t.castSucc from rfl,
    show (dat V c).Φ t.castSucc = PhiS V c t.val from rfl, show (dat V c).Φ t.succ = PhiS V c (t.val + 1) from rfl,
    leaves_0, leaves_1, leaves_2, leaves_3, leaves_4, leaves_5]
  by_cases h0 : t.val = 0
  · have h7 : ¬t.val % 8 = 7 := by omega
    rw [leaves_6_idle V c t h7]
    have hp : t = pt 0 := (pt_val t).symm.trans (congrArg pt h0)
    rw [h0, show PhiS V c 0 = Pipeline.scopedRest spec1 c from rfl, scopedRest_eq,
      show PhiS V c (0 + 1) = iprop(iprop(owns (c : Thread nD τ) (Memref.whole cc1_scratch0) fullShare (k1_pay1 (iblk V c 0 t) (iblk V c 3 t))
        ∗ owns (c : Thread nD τ) (Memref.whole cc1_scratch1) fullShare (k1_pay3 (iblk V c 1 t) (k1_pay1 (iblk V c 0 t) (iblk V c 3 t)) (iblk V c 2 t) k1_pay2)) ∗ restBut c) from by
          rw [hp]; rfl]
    iintro ⟨⟨⟨HS0, HS1⟩, Hr⟩, Ho, ⟨%d0, H0⟩, ⟨%d1, H1⟩, ⟨%d2, H2⟩, ⟨%d3, H3⟩, ⟨%d4, H4⟩, ⟨%d5, H5⟩, ⟨%d6, H6⟩⟩
    iapply (run_first c (grid1.coords t) _ _ _ _ _ _ _ _ _ _ _ _ _ _ _ _ _ _ ((condFirst_iff t).mpr (by omega)) (fun h => h7 ((condLast_iff t).mp h)) (iblk V c 0 t) (iblk V c 1 t) (iblk V c 2 t) (iblk V c 3 t) (iblk V c 4 t) (iblk V c 5 t) ((dat V c).before 6 t d6) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    iintro ⟨H0, H1, H2, H3, H4, H5, H6, HS0, HS1⟩
    isplitl [HS0 HS1 Hr]
    · isplitl [HS0 HS1]
      · isplitl [HS0]; · iexact HS0
        iexact HS1
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists d6; iexact H6
  · obtain ⟨n, hn⟩ : ∃ n, t.val = n + 1 := ⟨t.val - 1, by omega⟩
    have hacc : acc V c (t.val + 1) = k1_pay3 (iblk V c 1 t) (sT V c) (iblk V c 2 t) (acc V c (n + 1)) := by
      rw [hn]; show k1_pay3 (iblk V c 1 (pt (n + 1))) (sT V c) (iblk V c 2 (pt (n + 1))) (acc V c (n + 1)) = _
      rw [← hn, pt_val]
    have hc0 : ¬condFirst (grid1.coords t) := fun h => h0 (by have := (condFirst_iff t).mp h; omega)
    rw [show PhiS V c (t.val + 1) = iprop(iprop(owns (c : Thread nD τ) (Memref.whole cc1_scratch0) fullShare (sT V c)
        ∗ owns (c : Thread nD τ) (Memref.whole cc1_scratch1) fullShare (acc V c (t.val + 1))) ∗ restBut c) from rfl, hacc,
      show PhiS V c t.val = iprop(iprop(owns (c : Thread nD τ) (Memref.whole cc1_scratch0) fullShare (sT V c)
        ∗ owns (c : Thread nD τ) (Memref.whole cc1_scratch1) fullShare (acc V c (n + 1))) ∗ restBut c) from by rw [hn]; rfl]
    by_cases h7 : t.val % 8 = 7
    · have hp : pt 7 = t := by rw [← pt_val t]; exact congrArg pt (by omega)
      have ho : out V c = k1_pay4 (k1_pay3 (iblk V c 1 t) (sT V c) (iblk V c 2 t) (acc V c (n + 1))) (iblk V c 3 t) (iblk V c 4 t) (iblk V c 5 t) := by
        rw [← hacc, show t.val + 1 = 8 from by omega, out, hp]
      rw [leaves_6_last V c t h7, ho]
      iintro ⟨⟨⟨HS0, HS1⟩, Hr⟩, Ho, ⟨%d0, H0⟩, ⟨%d1, H1⟩, ⟨%d2, H2⟩, ⟨%d3, H3⟩, ⟨%d4, H4⟩, ⟨%d5, H5⟩, ⟨%d6, H6⟩⟩
      iapply (run_last c (grid1.coords t) _ _ _ _ _ _ _ _ _ _ _ _ _ _ _ _ _ _ hc0 ((condLast_iff t).mpr h7) (iblk V c 0 t) (iblk V c 1 t) (iblk V c 2 t) (iblk V c 3 t) (iblk V c 4 t) (iblk V c 5 t) ((dat V c).before 6 t d6) (sT V c) (acc V c (n + 1)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, HS0, HS1⟩
      isplitl [HS0 HS1 Hr]
      · isplitl [HS0 HS1]
        · isplitl [HS0]; · iexact HS0
          iexact HS1
        iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [leaves_6_idle V c t h7]
      iintro ⟨⟨⟨HS0, HS1⟩, Hr⟩, Ho, ⟨%d0, H0⟩, ⟨%d1, H1⟩, ⟨%d2, H2⟩, ⟨%d3, H3⟩, ⟨%d4, H4⟩, ⟨%d5, H5⟩, ⟨%d6, H6⟩⟩
      iapply (run_mid c (grid1.coords t) _ _ _ _ _ _ _ _ _ _ _ _ _ _ _ _ _ _ hc0 (fun h => h7 ((condLast_iff t).mp h)) (iblk V c 0 t) (iblk V c 1 t) (iblk V c 2 t) (iblk V c 3 t) (iblk V c 4 t) (iblk V c 5 t) ((dat V c).before 6 t d6) (sT V c) (acc V c (n + 1)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, HS0, HS1⟩
      isplitl [HS0 HS1 Hr]
      · isplitl [HS0 HS1]
        · isplitl [HS0]; · iexact HS0
          iexact HS1
        iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists d6; iexact H6

/-- The call's body at point `t` is the layer's body on the windows' buffers. -/
theorem defs₀_row (t : Fin cfg1.N) :
    defs₀ (F := F) .tc cfg1.body (cfg1.bodyArgs t (cfg1.slots t)) = bodyAt1 t := by
  unfold defs₀; rw [Defs.onTc_tc]

/-- The body meets its obligation at every point. -/
theorem body_obligation (c : Dev nD) : BodyObligation (dat (F := F) V c) (defs₀ (F := F)) Variants.none () Set.univ := fun t => by
  rw [bigSep_W1, bigSep_W1, defs₀_row]
  exact triple_restated (sound_body V c t) rfl .rfl fun _ => .rfl

/-- After the last block the scratch buffers are given back at anything. -/
theorem Phi_last (c : Dev nD) : (dat V c).Φ (Fin.last cfg1.N) ⊢ (Pipeline.scopedRest spec1 c : sProp 𝕄) := by
  rw [show (dat V c).Φ (Fin.last cfg1.N) = PhiS V c (7 + 1) from by
    dsimp only [dat]; rw [Fin.val_last, show cfg1.N = 7 + 1 from N_1], scopedRest_eq, PhiS]
  iintro ⟨⟨HS0, HS1⟩, Hr⟩
  isplitl [HS0 HS1]
  · isplitl [HS0]
    · iexists _; iexact HS0
    iexists _; iexact HS1
  iexact Hr

end Cert.Proof.Layer1

end
-- ==== Proof.Layer2.lean ====
/-
  The kernel call of the second layer (`cc2__layer_body`, a grid of 8 blocks of 640 hyperedges), run at any contents of its arrays.

  At the first block the body prepares the transposed scaled input in one scratch buffer and clears the accumulator, at
  every block it adds the block's contribution to the accumulator, and at the last block it forms the layer's output.
  The two scratch buffers pass from block to block, so the invariant names what they hold.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.WholeBlock
public import Idealize.ShloMosaic.Lib.Ring
public import Idealize.ShloMosaic.Lib.Tactic
public import Idealize.ShloMosaic.Lib.WordCmp

@[expose] public section

set_option maxRecDepth 16384

noncomputable section

namespace Cert.Proof.Layer2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions -/

/-- The body's condition for preparing the scratch buffers. -/
abbrev condFirst (i : grid2.Coords) : Prop :=
  (Scalar.cmpi .ne (Scalar.extui (Scalar.cmpi .eq (BitVec.ofNat 32 (i 0).val) 0#32)) 0#32) = 1#1
/-- The body's condition for forming the output. -/
abbrev condLast (i : grid2.Coords) : Prop := k2_cond2 i = 1#1

/-- The scratch buffers are prepared at the first block only. -/
theorem condFirst_iff : ∀ t : Fin cfg2.N, condFirst (grid2.coords t) ↔ t.val % 8 = 0 :=
  (fun t => by
    have ht : t.val < 8 := Nat.lt_of_lt_of_eq t.isLt N_2
    have e0 : (grid2.coords t 0).val = t.val / 1 % 8 := Pipeline.Grid.coords_val t 0 (by decide) rfl
    simp only [condFirst, e0]
    word_cmp
   : ∀ t : Fin grid2.N, condFirst (grid2.coords t) ↔ t.val % 8 = 0)

/-- The output is formed at the last block only. -/
theorem condLast_iff : ∀ t : Fin cfg2.N, condLast (grid2.coords t) ↔ t.val % 8 = 7 :=
  (fun t => by
    have ht : t.val < 8 := Nat.lt_of_lt_of_eq t.isLt N_2
    have e0 : (grid2.coords t 0).val = t.val / 1 % 8 := Pipeline.Grid.coords_val t 0 (by decide) rfl
    simp only [condLast, k2_cond2, e0]
    word_cmp
   : ∀ t : Fin grid2.N, condLast (grid2.coords t) ↔ t.val % 8 = 7)

/-! ## The body, case by case -/

set_option maxHeartbeats 2000000 in
/-- At the first block: the transposed scaled input is stored, and the accumulator holds the first block's contribution over zero. -/
theorem run_first (c : Dev nD) (i : grid2.Coords) (arg1 : Memref sig .tc .vmem S10000x128 .f32) (harg1 : arg1.IsWhole) (arg2 : Memref sig .tc .vmem S10000x640 .bf16) (harg2 : arg2.IsWhole) (arg3 : Memref sig .tc .vmem S1x1x640 .f32) (harg3 : arg3.IsWhole) (arg4 : Memref sig .tc .vmem S10000x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S10000x128 .f32) (harg7 : arg7.IsWhole) (arg8 : Memref sig .tc .vmem S128x10000 .bf16) (harg8 : arg8.IsWhole) (arg9 : Memref sig .tc .vmem S10000x128 .f32) (harg9 : arg9.IsWhole)
    (hc0 : condFirst i) (hc1 : ¬condLast i)
    (x0 : Vec F S10000x128 .f32) (x1 : Vec F S10000x640 .bf16) (x2 : Vec F S1x1x640 .f32) (x3 : Vec F S10000x1 .f32) (x4 : Vec F S128x128 .f32) (x5 : Vec F S1x128 .f32) (x6 : Vec F S10000x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d)
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (k2_pay1 x0 x3) ∗ owns (c : Thread nD τ) arg9 fullShare (k2_pay3 x1 (k2_pay1 x0 x3) x2 k2_pay2)) -∗ K ⟨⟩))
      ⊢ wp frame (wpE (defs₀ (F := F)) Variants.none c none) E (cc2__layer_body i arg1 harg1 arg2 harg2 arg3 harg3 arg4 harg4 arg5 harg5 arg6 harg6 arg7 harg7 arg8 harg8 arg9 harg9) K := by
  simp only [cc2__layer_body_eq_skeleton]; unfold cc2__layer_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  sl_exec (disch := first | sl_exact hc0 | sl_exact hc1)
  sl_step
  iapply Hk
  have larg1 := WholeBlock.load_unread harg1 x0 WholeBlock.zero2 inb_S10000x128_S10000x128_0_0
  have larg2 := WholeBlock.load_unread harg2 x1 WholeBlock.zero2 inb_S10000x640_S10000x640_0_0
  have larg3 := WholeBlock.load_unread harg3 x2 WholeBlock.zero3 inb_S1x1x640_S1x1x640_0_0_0
  have larg4 := WholeBlock.load_unread harg4 x3 WholeBlock.zero2 inb_S10000x1_S10000x1_0_0
  have larg5 := WholeBlock.load_unread harg5 x4 WholeBlock.zero2 inb_S128x128_S128x128_0_0
  have larg6 := WholeBlock.load_unread harg6 x5 WholeBlock.zero2 inb_S1x128_S1x128_0_0
  have lst9 := fun (w : Vec F S10000x128 .f32) (L : List (View.Piece (Elt F) S10000x128 .f32)) => WholeBlock.load_store arg9.view WholeBlock.zero2 inb_S10000x128_S10000x128_0_0 w L
  have lst8 := fun (w : Vec F S128x10000 .bf16) (L : List (View.Piece (Elt F) S128x10000 .bf16)) => WholeBlock.load_store arg8.view WholeBlock.zero2 inb_S128x10000_S128x10000_0_0 w L
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact hf6
    iexact H6
  isplitl [HS0]
  · iexists _; isplitr
    swap; · iexact HS0
    ipureintro
    refine (WholeBlock.read_store _ _ WholeBlock.zero2 _ _ _).trans ?_

    simp only [larg1, larg2, larg3, larg4, larg5, larg6, lst8, lst9]
  · iexists _; isplitr
    swap; · iexact HS1
    ipureintro
    refine (WholeBlock.read_store _ _ WholeBlock.zero2 _ _ _).trans ?_
    unfold run_first.sl.v5 run_first.sl.v13 run_first.sl.HS0_1 run_first.sl.HS1_1

    simp only [larg1, larg2, larg3, larg4, larg5, larg6, lst8, lst9]

set_option maxHeartbeats 2000000 in
/-- At a block that is neither first nor last: the accumulator gains the block's contribution. -/
theorem run_mid (c : Dev nD) (i : grid2.Coords) (arg1 : Memref sig .tc .vmem S10000x128 .f32) (harg1 : arg1.IsWhole) (arg2 : Memref sig .tc .vmem S10000x640 .bf16) (harg2 : arg2.IsWhole) (arg3 : Memref sig .tc .vmem S1x1x640 .f32) (harg3 : arg3.IsWhole) (arg4 : Memref sig .tc .vmem S10000x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S10000x128 .f32) (harg7 : arg7.IsWhole) (arg8 : Memref sig .tc .vmem S128x10000 .bf16) (harg8 : arg8.IsWhole) (arg9 : Memref sig .tc .vmem S10000x128 .f32) (harg9 : arg9.IsWhole)
    (hc0 : ¬condFirst i) (hc1 : ¬condLast i)
    (x0 : Vec F S10000x128 .f32) (x1 : Vec F S10000x640 .bf16) (x2 : Vec F S1x1x640 .f32) (x3 : Vec F S10000x1 .f32) (x4 : Vec F S128x128 .f32) (x5 : Vec F S1x128 .f32) (x6 : Vec F S10000x128 .f32) (xs0 : Vec F S128x10000 .bf16) (xs1 : Vec F S10000x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xs0 ∗ owns (c : Thread nD τ) arg9 fullShare xs1
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xs0 ∗ owns (c : Thread nD τ) arg9 fullShare (k2_pay3 x1 xs0 x2 xs1)) -∗ K ⟨⟩))
      ⊢ wp frame (wpE (defs₀ (F := F)) Variants.none c none) E (cc2__layer_body i arg1 harg1 arg2 harg2 arg3 harg3 arg4 harg4 arg5 harg5 arg6 harg6 arg7 harg7 arg8 harg8 arg9 harg9) K := by
  simp only [cc2__layer_body_eq_skeleton]; unfold cc2__layer_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg8.eq_unread hfs0; obtain rfl := harg9.eq_unread hfs1
  sl_exec (disch := first | sl_exact hc0 | sl_exact hc1)
  sl_step
  iapply Hk
  have larg1 := WholeBlock.load_unread harg1 x0 WholeBlock.zero2 inb_S10000x128_S10000x128_0_0
  have larg2 := WholeBlock.load_unread harg2 x1 WholeBlock.zero2 inb_S10000x640_S10000x640_0_0
  have larg3 := WholeBlock.load_unread harg3 x2 WholeBlock.zero3 inb_S1x1x640_S1x1x640_0_0_0
  have larg4 := WholeBlock.load_unread harg4 x3 WholeBlock.zero2 inb_S10000x1_S10000x1_0_0
  have larg5 := WholeBlock.load_unread harg5 x4 WholeBlock.zero2 inb_S128x128_S128x128_0_0
  have larg6 := WholeBlock.load_unread harg6 x5 WholeBlock.zero2 inb_S1x128_S1x128_0_0
  have larg8 := WholeBlock.load_unread harg8 xs0 WholeBlock.zero2 inb_S128x10000_S128x10000_0_0
  have larg9 := WholeBlock.load_unread harg9 xs1 WholeBlock.zero2 inb_S10000x128_S10000x128_0_0
  have lst9 := fun (w : Vec F S10000x128 .f32) (L : List (View.Piece (Elt F) S10000x128 .f32)) => WholeBlock.load_store arg9.view WholeBlock.zero2 inb_S10000x128_S10000x128_0_0 w L
  have lst8 := fun (w : Vec F S128x10000 .bf16) (L : List (View.Piece (Elt F) S128x10000 .bf16)) => WholeBlock.load_store arg8.view WholeBlock.zero2 inb_S128x10000_S128x10000_0_0 w L
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact hf6
    iexact H6
  isplitl [HS0]
  · iexists _; isplitr; · ipureintro; exact harg8.read_unread _
    iexact HS0
  · iexists _; isplitr
    swap; · iexact HS1
    ipureintro
    refine (WholeBlock.read_store _ _ WholeBlock.zero2 _ _ _).trans ?_

    simp only [larg1, larg2, larg3, larg4, larg5, larg6, larg8, larg9, lst8, lst9]

set_option maxHeartbeats 2000000 in
/-- At the last block: the accumulator gains the block's contribution, and the output is formed from it. -/
theorem run_last (c : Dev nD) (i : grid2.Coords) (arg1 : Memref sig .tc .vmem S10000x128 .f32) (harg1 : arg1.IsWhole) (arg2 : Memref sig .tc .vmem S10000x640 .bf16) (harg2 : arg2.IsWhole) (arg3 : Memref sig .tc .vmem S1x1x640 .f32) (harg3 : arg3.IsWhole) (arg4 : Memref sig .tc .vmem S10000x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S10000x128 .f32) (harg7 : arg7.IsWhole) (arg8 : Memref sig .tc .vmem S128x10000 .bf16) (harg8 : arg8.IsWhole) (arg9 : Memref sig .tc .vmem S10000x128 .f32) (harg9 : arg9.IsWhole)
    (hc0 : ¬condFirst i) (hc1 : condLast i)
    (x0 : Vec F S10000x128 .f32) (x1 : Vec F S10000x640 .bf16) (x2 : Vec F S1x1x640 .f32) (x3 : Vec F S10000x1 .f32) (x4 : Vec F S128x128 .f32) (x5 : Vec F S1x128 .f32) (x6 : Vec F S10000x128 .f32) (xs0 : Vec F S128x10000 .bf16) (xs1 : Vec F S10000x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xs0 ∗ owns (c : Thread nD τ) arg9 fullShare xs1
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (k2_pay4 (k2_pay3 x1 xs0 x2 xs1) x3 x4 x5 x0) ∗ owns (c : Thread nD τ) arg8 fullShare xs0 ∗ owns (c : Thread nD τ) arg9 fullShare (k2_pay3 x1 xs0 x2 xs1)) -∗ K ⟨⟩))
      ⊢ wp frame (wpE (defs₀ (F := F)) Variants.none c none) E (cc2__layer_body i arg1 harg1 arg2 harg2 arg3 harg3 arg4 harg4 arg5 harg5 arg6 harg6 arg7 harg7 arg8 harg8 arg9 harg9) K := by
  simp only [cc2__layer_body_eq_skeleton]; unfold cc2__layer_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg8.eq_unread hfs0; obtain rfl := harg9.eq_unread hfs1
  sl_exec (disch := first | sl_exact hc0 | sl_exact hc1)
  sl_step
  iapply Hk
  have larg1 := WholeBlock.load_unread harg1 x0 WholeBlock.zero2 inb_S10000x128_S10000x128_0_0
  have larg2 := WholeBlock.load_unread harg2 x1 WholeBlock.zero2 inb_S10000x640_S10000x640_0_0
  have larg3 := WholeBlock.load_unread harg3 x2 WholeBlock.zero3 inb_S1x1x640_S1x1x640_0_0_0
  have larg4 := WholeBlock.load_unread harg4 x3 WholeBlock.zero2 inb_S10000x1_S10000x1_0_0
  have larg5 := WholeBlock.load_unread harg5 x4 WholeBlock.zero2 inb_S128x128_S128x128_0_0
  have larg6 := WholeBlock.load_unread harg6 x5 WholeBlock.zero2 inb_S1x128_S1x128_0_0
  have larg8 := WholeBlock.load_unread harg8 xs0 WholeBlock.zero2 inb_S128x10000_S128x10000_0_0
  have larg9 := WholeBlock.load_unread harg9 xs1 WholeBlock.zero2 inb_S10000x128_S10000x128_0_0
  have lst9 := fun (w : Vec F S10000x128 .f32) (L : List (View.Piece (Elt F) S10000x128 .f32)) => WholeBlock.load_store arg9.view WholeBlock.zero2 inb_S10000x128_S10000x128_0_0 w L
  have lst8 := fun (w : Vec F S128x10000 .bf16) (L : List (View.Piece (Elt F) S128x10000 .bf16)) => WholeBlock.load_store arg8.view WholeBlock.zero2 inb_S128x10000_S128x10000_0_0 w L
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr
    swap; · iexact H6
    ipureintro
    refine (WholeBlock.read_store _ _ WholeBlock.zero2 _ _ _).trans ?_
    unfold run_last.sl.v22 run_last.sl.HS1_1

    simp only [larg1, larg2, larg3, larg4, larg5, larg6, larg8, larg9, lst8, lst9]
  isplitl [HS0]
  · iexists _; isplitr; · ipureintro; exact harg8.read_unread _
    iexact HS0
  · iexists _; isplitr
    swap; · iexact HS1
    ipureintro
    refine (WholeBlock.read_store _ _ WholeBlock.zero2 _ _ _).trans ?_

    simp only [larg1, larg2, larg3, larg4, larg5, larg6, larg8, larg9, lst8, lst9]

/-! ## What the scratch buffers and the output hold -/

variable (V : Dev nD → Valuation τ sig (Elt F))

/-- Window `w`'s block at point `t`, read off its array. -/
def iblk (c : Dev nD) (w : Fin cfg2.W) (t : Fin cfg2.N) : ((cfg2.win w).xblock (cfg2.grid.coords t)).Idx → Elt F (cfg2.win w).elt :=
  ((cfg2.win w).blk t).view.read (Elt F) (V c (Proc.devRef .tc (Pipeline.arrRef spec2 w)))

/-- The `n`-th grid point. -/
def pt (n : ℕ) : Fin cfg2.N := ⟨n % 8, by rw [show cfg2.N = 8 from N_2]; exact Nat.mod_lt _ (by decide)⟩

/-- A grid point is the one of its number. -/
theorem pt_val (t : Fin cfg2.N) : pt t.val = t :=
  Fin.ext (Nat.mod_eq_of_lt (lt_of_lt_of_eq t.isLt N_2))

/-- The transposed scaled input, as the first block stores it. -/
def sT (c : Dev nD) : Vec F S128x10000 .bf16 := k2_pay1 (iblk V c 0 (pt 0)) (iblk V c 3 (pt 0))

/-- The accumulator after the first `n` blocks. -/
def acc (c : Dev nD) : ℕ → Vec F S10000x128 .f32
  | 0 => k2_pay2
  | n + 1 => k2_pay3 (iblk V c 1 (pt n)) (sT V c) (iblk V c 2 (pt n)) (acc c n)

/-- The layer's output, as the last block forms it. -/
def out (c : Dev nD) : Vec F S10000x128 .f32 :=
  k2_pay4 (acc V c 8) (iblk V c 3 (pt 7)) (iblk V c 4 (pt 7)) (iblk V c 5 (pt 7)) (iblk V c 0 (pt 7))

/-! ## The invariant and the proof data -/

/-- The buffers of the call that neither a window stages nor the body uses as scratch. -/
abbrev restBut (c : Dev nD) : sProp 𝕄 := Pipeline.scopedRestBut (Ix := Unit) (Name := ℕ) (U := UR sig nD τ) (Lvl := ℕ) (Val := Elt F) spec2 c [cc2_scratch0, cc2_scratch1]

/-- Before block `n`: at the start every scratch buffer at anything; later the two scratch buffers at the transposed scaled
    input and at the accumulator after `n` blocks. -/
def PhiS (c : Dev nD) : ℕ → sProp 𝕄
  | 0 => Pipeline.scopedRest spec2 c
  | n + 1 => iprop(iprop(owns (c : Thread nD τ) (Memref.whole cc2_scratch0) fullShare (sT V c)
      ∗ owns (c : Thread nD τ) (Memref.whole cc2_scratch1) fullShare (acc V c (n + 1))) ∗ restBut c)

/-- The proof data of the call entered at the valuation `V c`: each input's buffer holds its block, the output's buffer
    ends at the layer's output. -/
def dat (c : Dev nD) : Dat τ (Elt F) Unit ℕ (UR sig nD τ) ℕ cfg2 c where
  A w := V c (Proc.devRef .tc (Pipeline.arrRef spec2 w))
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => out V c
  Φ t := PhiS V c t.val
  q _ := fullShare
  owed _ := 0

/-- The arrays are the valuation's. -/
theorem A_eq (c : Dev nD) (w : Fin cfg2.W) : (dat V c).A w = V c (Proc.devRef .tc (Pipeline.arrRef spec2 w)) := by
  dsimp only [dat]

/-- The scoped buffers no window stages, with the two scratch buffers as owned memrefs. -/
theorem scopedRest_eq (c : Dev nD) :
    (Pipeline.scopedRest spec2 c : sProp 𝕄)
      = iprop(iprop((∃ d, owns (c : Thread nD τ) (Memref.whole cc2_scratch0) fullShare d) ∗ (∃ d, owns (c : Thread nD τ) (Memref.whole cc2_scratch1) fullShare d)) ∗ restBut c) := by
  rw [scopedRest2_split]; simp only [owns_whole]; try rfl

theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = iblk V c 2 t := by dsimp only [dat]
theorem after_3 (c : Dev nD) (t : Fin cfg2.N) : (dat V c).after 3 t = iblk V c 3 t := by dsimp only [dat]
theorem after_4 (c : Dev nD) (t : Fin cfg2.N) : (dat V c).after 4 t = iblk V c 4 t := by dsimp only [dat]
theorem after_5 (c : Dev nD) (t : Fin cfg2.N) : (dat V c).after 5 t = iblk V c 5 t := by dsimp only [dat]
theorem after_6 (c : Dev nD) (t : Fin cfg2.N) : (dat V c).after 6 t = out V c := by dsimp only [dat]

/-- Input window 0's buffer holds its block when the body runs. -/
theorem before_0 (c : Dev nD) (t : Fin cfg2.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
/-- Input window 1's buffer holds its block when the body runs. -/
theorem before_1 (c : Dev nD) (t : Fin cfg2.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
/-- Input window 2's buffer holds its block when the body runs. -/
theorem before_2 (c : Dev nD) (t : Fin cfg2.N) (d) : (dat V c).before 2 t d = iblk V c 2 t :=
  ((dat V c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
/-- Input window 3's buffer holds its block when the body runs. -/
theorem before_3 (c : Dev nD) (t : Fin cfg2.N) (d) : (dat V c).before 3 t d = iblk V c 3 t :=
  ((dat V c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
/-- Input window 4's buffer holds its block when the body runs. -/
theorem before_4 (c : Dev nD) (t : Fin cfg2.N) (d) : (dat V c).before 4 t d = iblk V c 4 t :=
  ((dat V c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
/-- Input window 5's buffer holds its block when the body runs. -/
theorem before_5 (c : Dev nD) (t : Fin cfg2.N) (d) : (dat V c).before 5 t d = iblk V c 5 t :=
  ((dat V c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)

/-- An input window's buffer is left at its block. -/
theorem leaves_0 (c : Dev nD) (t : Fin cfg2.N) :
    (dat V c).leavesExact 0 t = owns (c : Thread nD τ) (win2_0.stage (cfg2.slots t 0)) fullShare (iblk V c 0 t) := by
  unfold Dat.leavesExact; rw [show cfg2.idle 0 (cfg2.grid.coords t) = false from rfl, after_0]
/-- An input window's buffer is left at its block. -/
theorem leaves_1 (c : Dev nD) (t : Fin cfg2.N) :
    (dat V c).leavesExact 1 t = owns (c : Thread nD τ) (win2_1.stage (cfg2.slots t 1)) fullShare (iblk V c 1 t) := by
  unfold Dat.leavesExact; rw [show cfg2.idle 1 (cfg2.grid.coords t) = false from rfl, after_1]
/-- An input window's buffer is left at its block. -/
theorem leaves_2 (c : Dev nD) (t : Fin cfg2.N) :
    (dat V c).leavesExact 2 t = owns (c : Thread nD τ) (win2_2.stage (cfg2.slots t 2)) fullShare (iblk V c 2 t) := by
  unfold Dat.leavesExact; rw [show cfg2.idle 2 (cfg2.grid.coords t) = false from rfl, after_2]
/-- An input window's buffer is left at its block. -/
theorem leaves_3 (c : Dev nD) (t : Fin cfg2.N) :
    (dat V c).leavesExact 3 t = owns (c : Thread nD τ) (win2_3.stage (cfg2.slots t 3)) fullShare (iblk V c 3 t) := by
  unfold Dat.leavesExact; rw [show cfg2.idle 3 (cfg2.grid.coords t) = false from rfl, after_3]
/-- An input window's buffer is left at its block. -/
theorem leaves_4 (c : Dev nD) (t : Fin cfg2.N) :
    (dat V c).leavesExact 4 t = owns (c : Thread nD τ) (win2_4.stage (cfg2.slots t 4)) fullShare (iblk V c 4 t) := by
  unfold Dat.leavesExact; rw [show cfg2.idle 4 (cfg2.grid.coords t) = false from rfl, after_4]
/-- An input window's buffer is left at its block. -/
theorem leaves_5 (c : Dev nD) (t : Fin cfg2.N) :
    (dat V c).leavesExact 5 t = owns (c : Thread nD τ) (win2_5.stage (cfg2.slots t 5)) fullShare (iblk V c 5 t) := by
  unfold Dat.leavesExact; rw [show cfg2.idle 5 (cfg2.grid.coords t) = false from rfl, after_5]
/-- Before the last block the output's buffer is left as it was found. -/
theorem leaves_6_idle (c : Dev nD) (t : Fin cfg2.N) (h : ¬t.val % 8 = 7) :
    (dat V c).leavesExact 6 t = iprop(∃ d, owns (c : Thread nD τ) (win2_6.stage (cfg2.slots t 6)) fullShare ((dat V c).before 6 t d)) :=
  (dat V c).leavesExact_idle 6 t
    (show (!(k2_cond2 (grid2.coords t) == 1#1)) = true by
      have h' : ¬k2_cond2 (grid2.coords t) = 1#1 := fun e => h ((condLast_iff t).mp e)
      simpa using h')
    (Bool.eq_false_iff.mpr fun e => h ((flush2_6 t).mp e))
/-- At the last block the output's buffer is left at the layer's output. -/
theorem leaves_6_last (c : Dev nD) (t : Fin cfg2.N) (h : t.val % 8 = 7) :
    (dat V c).leavesExact 6 t = owns (c : Thread nD τ) (win2_6.stage (cfg2.slots t 6)) fullShare (out V c) := by
  unfold Dat.leavesExact
  rw [show cfg2.idle 6 (cfg2.grid.coords t) = false from by
    show (!(k2_cond2 (grid2.coords t) == 1#1)) = false
    have h' : k2_cond2 (grid2.coords t) = 1#1 := (condLast_iff t).mpr h
    simpa using h', after_6]

/-! ## The body obligation -/

/-- What the body is called with at point `t`, window by window. -/
def bodyPre (c : Dev nD) (t : Fin cfg2.N) : sProp 𝕄 :=
  iprop((dat V c).Φ t.castSucc ∗ (dat V c).owesAt () t.castSucc
    ∗ (∃ d, owns (c : Thread nD τ) (win2_0.stage (cfg2.slots t 0)) fullShare ((dat V c).before 0 t d))
    ∗ (∃ d, owns (c : Thread nD τ) (win2_1.stage (cfg2.slots t 1)) fullShare ((dat V c).before 1 t d))
    ∗ (∃ d, owns (c : Thread nD τ) (win2_2.stage (cfg2.slots t 2)) fullShare ((dat V c).before 2 t d))
    ∗ (∃ d, owns (c : Thread nD τ) (win2_3.stage (cfg2.slots t 3)) fullShare ((dat V c).before 3 t d))
    ∗ (∃ d, owns (c : Thread nD τ) (win2_4.stage (cfg2.slots t 4)) fullShare ((dat V c).before 4 t d))
    ∗ (∃ d, owns (c : Thread nD τ) (win2_5.stage (cfg2.slots t 5)) fullShare ((dat V c).before 5 t d))
    ∗ (∃ d, owns (c : Thread nD τ) (win2_6.stage (cfg2.slots t 6)) fullShare ((dat V c).before 6 t d)))

/-- What the body returns at point `t`, window by window. -/
def bodyPost (c : Dev nD) (t : Fin cfg2.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t)

set_option maxHeartbeats 4000000 in
/-- The body at any point: the case the point is in applies, and what it leaves is what the invariant names. -/
theorem sound_body (c : Dev nD) (t : Fin cfg2.N) :
    bodyPre V c t ⊢ wp frame (wpE (defs₀ (F := F)) Variants.none c none) Set.univ (bodyAt2 t) (fun _ => bodyPost V c t) := by
  have hN : t.val < 8 := lt_of_lt_of_eq t.isLt (show cfg2.N = 8 from N_2)
  unfold bodyPre bodyPost bodyAt2
  simp only [before_0, before_1, before_2, before_3, before_4, before_5]
  rw [show (dat V c).owesAt () t.succ = (dat V c).owesAt () t.castSucc from rfl,
    show (dat V c).Φ t.castSucc = PhiS V c t.val from rfl, show (dat V c).Φ t.succ = PhiS V c (t.val + 1) from rfl,
    leaves_0, leaves_1, leaves_2, leaves_3, leaves_4, leaves_5]
  by_cases h0 : t.val = 0
  · have h7 : ¬t.val % 8 = 7 := by omega
    rw [leaves_6_idle V c t h7]
    have hp : t = pt 0 := (pt_val t).symm.trans (congrArg pt h0)
    rw [h0, show PhiS V c 0 = Pipeline.scopedRest spec2 c from rfl, scopedRest_eq,
      show PhiS V c (0 + 1) = iprop(iprop(owns (c : Thread nD τ) (Memref.whole cc2_scratch0) fullShare (k2_pay1 (iblk V c 0 t) (iblk V c 3 t))
        ∗ owns (c : Thread nD τ) (Memref.whole cc2_scratch1) fullShare (k2_pay3 (iblk V c 1 t) (k2_pay1 (iblk V c 0 t) (iblk V c 3 t)) (iblk V c 2 t) k2_pay2)) ∗ restBut c) from by
          rw [hp]; rfl]
    iintro ⟨⟨⟨HS0, HS1⟩, Hr⟩, Ho, ⟨%d0, H0⟩, ⟨%d1, H1⟩, ⟨%d2, H2⟩, ⟨%d3, H3⟩, ⟨%d4, H4⟩, ⟨%d5, H5⟩, ⟨%d6, H6⟩⟩
    iapply (run_first c (grid2.coords t) _ _ _ _ _ _ _ _ _ _ _ _ _ _ _ _ _ _ ((condFirst_iff t).mpr (by omega)) (fun h => h7 ((condLast_iff t).mp h)) (iblk V c 0 t) (iblk V c 1 t) (iblk V c 2 t) (iblk V c 3 t) (iblk V c 4 t) (iblk V c 5 t) ((dat V c).before 6 t d6) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    iintro ⟨H0, H1, H2, H3, H4, H5, H6, HS0, HS1⟩
    isplitl [HS0 HS1 Hr]
    · isplitl [HS0 HS1]
      · isplitl [HS0]; · iexact HS0
        iexact HS1
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists d6; iexact H6
  · obtain ⟨n, hn⟩ : ∃ n, t.val = n + 1 := ⟨t.val - 1, by omega⟩
    have hacc : acc V c (t.val + 1) = k2_pay3 (iblk V c 1 t) (sT V c) (iblk V c 2 t) (acc V c (n + 1)) := by
      rw [hn]; show k2_pay3 (iblk V c 1 (pt (n + 1))) (sT V c) (iblk V c 2 (pt (n + 1))) (acc V c (n + 1)) = _
      rw [← hn, pt_val]
    have hc0 : ¬condFirst (grid2.coords t) := fun h => h0 (by have := (condFirst_iff t).mp h; omega)
    rw [show PhiS V c (t.val + 1) = iprop(iprop(owns (c : Thread nD τ) (Memref.whole cc2_scratch0) fullShare (sT V c)
        ∗ owns (c : Thread nD τ) (Memref.whole cc2_scratch1) fullShare (acc V c (t.val + 1))) ∗ restBut c) from rfl, hacc,
      show PhiS V c t.val = iprop(iprop(owns (c : Thread nD τ) (Memref.whole cc2_scratch0) fullShare (sT V c)
        ∗ owns (c : Thread nD τ) (Memref.whole cc2_scratch1) fullShare (acc V c (n + 1))) ∗ restBut c) from by rw [hn]; rfl]
    by_cases h7 : t.val % 8 = 7
    · have hp : pt 7 = t := by rw [← pt_val t]; exact congrArg pt (by omega)
      have ho : out V c = k2_pay4 (k2_pay3 (iblk V c 1 t) (sT V c) (iblk V c 2 t) (acc V c (n + 1))) (iblk V c 3 t) (iblk V c 4 t) (iblk V c 5 t) (iblk V c 0 t) := by
        rw [← hacc, show t.val + 1 = 8 from by omega, out, hp]
      rw [leaves_6_last V c t h7, ho]
      iintro ⟨⟨⟨HS0, HS1⟩, Hr⟩, Ho, ⟨%d0, H0⟩, ⟨%d1, H1⟩, ⟨%d2, H2⟩, ⟨%d3, H3⟩, ⟨%d4, H4⟩, ⟨%d5, H5⟩, ⟨%d6, H6⟩⟩
      iapply (run_last c (grid2.coords t) _ _ _ _ _ _ _ _ _ _ _ _ _ _ _ _ _ _ hc0 ((condLast_iff t).mpr h7) (iblk V c 0 t) (iblk V c 1 t) (iblk V c 2 t) (iblk V c 3 t) (iblk V c 4 t) (iblk V c 5 t) ((dat V c).before 6 t d6) (sT V c) (acc V c (n + 1)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, HS0, HS1⟩
      isplitl [HS0 HS1 Hr]
      · isplitl [HS0 HS1]
        · isplitl [HS0]; · iexact HS0
          iexact HS1
        iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [leaves_6_idle V c t h7]
      iintro ⟨⟨⟨HS0, HS1⟩, Hr⟩, Ho, ⟨%d0, H0⟩, ⟨%d1, H1⟩, ⟨%d2, H2⟩, ⟨%d3, H3⟩, ⟨%d4, H4⟩, ⟨%d5, H5⟩, ⟨%d6, H6⟩⟩
      iapply (run_mid c (grid2.coords t) _ _ _ _ _ _ _ _ _ _ _ _ _ _ _ _ _ _ hc0 (fun h => h7 ((condLast_iff t).mp h)) (iblk V c 0 t) (iblk V c 1 t) (iblk V c 2 t) (iblk V c 3 t) (iblk V c 4 t) (iblk V c 5 t) ((dat V c).before 6 t d6) (sT V c) (acc V c (n + 1)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, HS0, HS1⟩
      isplitl [HS0 HS1 Hr]
      · isplitl [HS0 HS1]
        · isplitl [HS0]; · iexact HS0
          iexact HS1
        iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists d6; iexact H6

/-- The call's body at point `t` is the layer's body on the windows' buffers. -/
theorem defs₀_row (t : Fin cfg2.N) :
    defs₀ (F := F) .tc cfg2.body (cfg2.bodyArgs t (cfg2.slots t)) = bodyAt2 t := by
  unfold defs₀; rw [Defs.onTc_tc]

/-- The body meets its obligation at every point. -/
theorem body_obligation (c : Dev nD) : BodyObligation (dat (F := F) V c) (defs₀ (F := F)) Variants.none () Set.univ := fun t => by
  rw [bigSep_W2, bigSep_W2, defs₀_row]
  exact triple_restated (sound_body V c t) rfl .rfl fun _ => .rfl

/-- After the last block the scratch buffers are given back at anything. -/
theorem Phi_last (c : Dev nD) : (dat V c).Φ (Fin.last cfg2.N) ⊢ (Pipeline.scopedRest spec2 c : sProp 𝕄) := by
  rw [show (dat V c).Φ (Fin.last cfg2.N) = PhiS V c (7 + 1) from by
    dsimp only [dat]; rw [Fin.val_last, show cfg2.N = 7 + 1 from N_2], scopedRest_eq, PhiS]
  iintro ⟨⟨HS0, HS1⟩, Hr⟩
  isplitl [HS0 HS1]
  · isplitl [HS0]
    · iexists _; iexact HS0
    iexists _; iexact HS1
  iexact Hr

end Cert.Proof.Layer2

end
-- ==== Proof.Layer3.lean ====
/-
  The kernel call of the third layer (`cc3__layer_body`, a grid of 8 blocks of 640 hyperedges), run at any contents of its arrays.

  At the first block the body prepares the transposed scaled input in one scratch buffer and clears the accumulator, at
  every block it adds the block's contribution to the accumulator, and at the last block it forms the layer's output.
  The two scratch buffers pass from block to block, so the invariant names what they hold.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.WholeBlock
public import Idealize.ShloMosaic.Lib.Ring
public import Idealize.ShloMosaic.Lib.Tactic
public import Idealize.ShloMosaic.Lib.WordCmp

@[expose] public section

set_option maxRecDepth 16384

noncomputable section

namespace Cert.Proof.Layer3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions -/

/-- The body's condition for preparing the scratch buffers. -/
abbrev condFirst (i : grid3.Coords) : Prop :=
  (Scalar.cmpi .ne (Scalar.extui (Scalar.cmpi .eq (BitVec.ofNat 32 (i 0).val) 0#32)) 0#32) = 1#1
/-- The body's condition for forming the output. -/
abbrev condLast (i : grid3.Coords) : Prop := k3_cond2 i = 1#1

/-- The scratch buffers are prepared at the first block only. -/
theorem condFirst_iff : ∀ t : Fin cfg3.N, condFirst (grid3.coords t) ↔ t.val % 8 = 0 :=
  (fun t => by
    have ht : t.val < 8 := Nat.lt_of_lt_of_eq t.isLt N_3
    have e0 : (grid3.coords t 0).val = t.val / 1 % 8 := Pipeline.Grid.coords_val t 0 (by decide) rfl
    simp only [condFirst, e0]
    word_cmp
   : ∀ t : Fin grid3.N, condFirst (grid3.coords t) ↔ t.val % 8 = 0)

/-- The output is formed at the last block only. -/
theorem condLast_iff : ∀ t : Fin cfg3.N, condLast (grid3.coords t) ↔ t.val % 8 = 7 :=
  (fun t => by
    have ht : t.val < 8 := Nat.lt_of_lt_of_eq t.isLt N_3
    have e0 : (grid3.coords t 0).val = t.val / 1 % 8 := Pipeline.Grid.coords_val t 0 (by decide) rfl
    simp only [condLast, k3_cond2, e0]
    word_cmp
   : ∀ t : Fin grid3.N, condLast (grid3.coords t) ↔ t.val % 8 = 7)

/-! ## The body, case by case -/

set_option maxHeartbeats 2000000 in
/-- At the first block: the transposed scaled input is stored, and the accumulator holds the first block's contribution over zero. -/
theorem run_first (c : Dev nD) (i : grid3.Coords) (arg1 : Memref sig .tc .vmem S10000x128 .f32) (harg1 : arg1.IsWhole) (arg2 : Memref sig .tc .vmem S10000x640 .bf16) (harg2 : arg2.IsWhole) (arg3 : Memref sig .tc .vmem S1x1x640 .f32) (harg3 : arg3.IsWhole) (arg4 : Memref sig .tc .vmem S10000x1 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S10000x64 .f32) (harg7 : arg7.IsWhole) (arg8 : Memref sig .tc .vmem S128x10000 .bf16) (harg8 : arg8.IsWhole) (arg9 : Memref sig .tc .vmem S10000x128 .f32) (harg9 : arg9.IsWhole)
    (hc0 : condFirst i) (hc1 : ¬condLast i)
    (x0 : Vec F S10000x128 .f32) (x1 : Vec F S10000x640 .bf16) (x2 : Vec F S1x1x640 .f32) (x3 : Vec F S10000x1 .f32) (x4 : Vec F S128x64 .f32) (x5 : Vec F S1x64 .f32) (x6 : Vec F S10000x64 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d)
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (k3_pay1 x0 x3) ∗ owns (c : Thread nD τ) arg9 fullShare (k3_pay3 x1 (k3_pay1 x0 x3) x2 k3_pay2)) -∗ K ⟨⟩))
      ⊢ wp frame (wpE (defs₀ (F := F)) Variants.none c none) E (cc3__layer_body i arg1 harg1 arg2 harg2 arg3 harg3 arg4 harg4 arg5 harg5 arg6 harg6 arg7 harg7 arg8 harg8 arg9 harg9) K := by
  simp only [cc3__layer_body_eq_skeleton]; unfold cc3__layer_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  sl_exec (disch := first | sl_exact hc0 | sl_exact hc1)
  sl_step
  iapply Hk
  have larg1 := WholeBlock.load_unread harg1 x0 WholeBlock.zero2 inb_S10000x128_S10000x128_0_0
  have larg2 := WholeBlock.load_unread harg2 x1 WholeBlock.zero2 inb_S10000x640_S10000x640_0_0
  have larg3 := WholeBlock.load_unread harg3 x2 WholeBlock.zero3 inb_S1x1x640_S1x1x640_0_0_0
  have larg4 := WholeBlock.load_unread harg4 x3 WholeBlock.zero2 inb_S10000x1_S10000x1_0_0
  have larg5 := WholeBlock.load_unread harg5 x4 WholeBlock.zero2 inb_S128x64_S128x64_0_0
  have larg6 := WholeBlock.load_unread harg6 x5 WholeBlock.zero2 inb_S1x64_S1x64_0_0
  have lst9 := fun (w : Vec F S10000x128 .f32) (L : List (View.Piece (Elt F) S10000x128 .f32)) => WholeBlock.load_store arg9.view WholeBlock.zero2 inb_S10000x128_S10000x128_0_0 w L
  have lst8 := fun (w : Vec F S128x10000 .bf16) (L : List (View.Piece (Elt F) S128x10000 .bf16)) => WholeBlock.load_store arg8.view WholeBlock.zero2 inb_S128x10000_S128x10000_0_0 w L
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact hf6
    iexact H6
  isplitl [HS0]
  · iexists _; isplitr
    swap; · iexact HS0
    ipureintro
    refine (WholeBlock.read_store _ _ WholeBlock.zero2 _ _ _).trans ?_

    simp only [larg1, larg2, larg3, larg4, larg5, larg6, lst8, lst9]
  · iexists _; isplitr
    swap; · iexact HS1
    ipureintro
    refine (WholeBlock.read_store _ _ WholeBlock.zero2 _ _ _).trans ?_
    unfold run_first.sl.v5 run_first.sl.v13 run_first.sl.HS0_1 run_first.sl.HS1_1

    simp only [larg1, larg2, larg3, larg4, larg5, larg6, lst8, lst9]

set_option maxHeartbeats 2000000 in
/-- At a block that is neither first nor last: the accumulator gains the block's contribution. -/
theorem run_mid (c : Dev nD) (i : grid3.Coords) (arg1 : Memref sig .tc .vmem S10000x128 .f32) (harg1 : arg1.IsWhole) (arg2 : Memref sig .tc .vmem S10000x640 .bf16) (harg2 : arg2.IsWhole) (arg3 : Memref sig .tc .vmem S1x1x640 .f32) (harg3 : arg3.IsWhole) (arg4 : Memref sig .tc .vmem S10000x1 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S10000x64 .f32) (harg7 : arg7.IsWhole) (arg8 : Memref sig .tc .vmem S128x10000 .bf16) (harg8 : arg8.IsWhole) (arg9 : Memref sig .tc .vmem S10000x128 .f32) (harg9 : arg9.IsWhole)
    (hc0 : ¬condFirst i) (hc1 : ¬condLast i)
    (x0 : Vec F S10000x128 .f32) (x1 : Vec F S10000x640 .bf16) (x2 : Vec F S1x1x640 .f32) (x3 : Vec F S10000x1 .f32) (x4 : Vec F S128x64 .f32) (x5 : Vec F S1x64 .f32) (x6 : Vec F S10000x64 .f32) (xs0 : Vec F S128x10000 .bf16) (xs1 : Vec F S10000x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xs0 ∗ owns (c : Thread nD τ) arg9 fullShare xs1
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xs0 ∗ owns (c : Thread nD τ) arg9 fullShare (k3_pay3 x1 xs0 x2 xs1)) -∗ K ⟨⟩))
      ⊢ wp frame (wpE (defs₀ (F := F)) Variants.none c none) E (cc3__layer_body i arg1 harg1 arg2 harg2 arg3 harg3 arg4 harg4 arg5 harg5 arg6 harg6 arg7 harg7 arg8 harg8 arg9 harg9) K := by
  simp only [cc3__layer_body_eq_skeleton]; unfold cc3__layer_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg8.eq_unread hfs0; obtain rfl := harg9.eq_unread hfs1
  sl_exec (disch := first | sl_exact hc0 | sl_exact hc1)
  sl_step
  iapply Hk
  have larg1 := WholeBlock.load_unread harg1 x0 WholeBlock.zero2 inb_S10000x128_S10000x128_0_0
  have larg2 := WholeBlock.load_unread harg2 x1 WholeBlock.zero2 inb_S10000x640_S10000x640_0_0
  have larg3 := WholeBlock.load_unread harg3 x2 WholeBlock.zero3 inb_S1x1x640_S1x1x640_0_0_0
  have larg4 := WholeBlock.load_unread harg4 x3 WholeBlock.zero2 inb_S10000x1_S10000x1_0_0
  have larg5 := WholeBlock.load_unread harg5 x4 WholeBlock.zero2 inb_S128x64_S128x64_0_0
  have larg6 := WholeBlock.load_unread harg6 x5 WholeBlock.zero2 inb_S1x64_S1x64_0_0
  have larg8 := WholeBlock.load_unread harg8 xs0 WholeBlock.zero2 inb_S128x10000_S128x10000_0_0
  have larg9 := WholeBlock.load_unread harg9 xs1 WholeBlock.zero2 inb_S10000x128_S10000x128_0_0
  have lst9 := fun (w : Vec F S10000x128 .f32) (L : List (View.Piece (Elt F) S10000x128 .f32)) => WholeBlock.load_store arg9.view WholeBlock.zero2 inb_S10000x128_S10000x128_0_0 w L
  have lst8 := fun (w : Vec F S128x10000 .bf16) (L : List (View.Piece (Elt F) S128x10000 .bf16)) => WholeBlock.load_store arg8.view WholeBlock.zero2 inb_S128x10000_S128x10000_0_0 w L
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact hf6
    iexact H6
  isplitl [HS0]
  · iexists _; isplitr; · ipureintro; exact harg8.read_unread _
    iexact HS0
  · iexists _; isplitr
    swap; · iexact HS1
    ipureintro
    refine (WholeBlock.read_store _ _ WholeBlock.zero2 _ _ _).trans ?_

    simp only [larg1, larg2, larg3, larg4, larg5, larg6, larg8, larg9, lst8, lst9]

set_option maxHeartbeats 2000000 in
/-- At the last block: the accumulator gains the block's contribution, and the output is formed from it. -/
theorem run_last (c : Dev nD) (i : grid3.Coords) (arg1 : Memref sig .tc .vmem S10000x128 .f32) (harg1 : arg1.IsWhole) (arg2 : Memref sig .tc .vmem S10000x640 .bf16) (harg2 : arg2.IsWhole) (arg3 : Memref sig .tc .vmem S1x1x640 .f32) (harg3 : arg3.IsWhole) (arg4 : Memref sig .tc .vmem S10000x1 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S10000x64 .f32) (harg7 : arg7.IsWhole) (arg8 : Memref sig .tc .vmem S128x10000 .bf16) (harg8 : arg8.IsWhole) (arg9 : Memref sig .tc .vmem S10000x128 .f32) (harg9 : arg9.IsWhole)
    (hc0 : ¬condFirst i) (hc1 : condLast i)
    (x0 : Vec F S10000x128 .f32) (x1 : Vec F S10000x640 .bf16) (x2 : Vec F S1x1x640 .f32) (x3 : Vec F S10000x1 .f32) (x4 : Vec F S128x64 .f32) (x5 : Vec F S1x64 .f32) (x6 : Vec F S10000x64 .f32) (xs0 : Vec F S128x10000 .bf16) (xs1 : Vec F S10000x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xs0 ∗ owns (c : Thread nD τ) arg9 fullShare xs1
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (k3_pay4 (k3_pay3 x1 xs0 x2 xs1) x3 x4 x5) ∗ owns (c : Thread nD τ) arg8 fullShare xs0 ∗ owns (c : Thread nD τ) arg9 fullShare (k3_pay3 x1 xs0 x2 xs1)) -∗ K ⟨⟩))
      ⊢ wp frame (wpE (defs₀ (F := F)) Variants.none c none) E (cc3__layer_body i arg1 harg1 arg2 harg2 arg3 harg3 arg4 harg4 arg5 harg5 arg6 harg6 arg7 harg7 arg8 harg8 arg9 harg9) K := by
  simp only [cc3__layer_body_eq_skeleton]; unfold cc3__layer_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg8.eq_unread hfs0; obtain rfl := harg9.eq_unread hfs1
  sl_exec (disch := first | sl_exact hc0 | sl_exact hc1)
  sl_step
  iapply Hk
  have larg1 := WholeBlock.load_unread harg1 x0 WholeBlock.zero2 inb_S10000x128_S10000x128_0_0
  have larg2 := WholeBlock.load_unread harg2 x1 WholeBlock.zero2 inb_S10000x640_S10000x640_0_0
  have larg3 := WholeBlock.load_unread harg3 x2 WholeBlock.zero3 inb_S1x1x640_S1x1x640_0_0_0
  have larg4 := WholeBlock.load_unread harg4 x3 WholeBlock.zero2 inb_S10000x1_S10000x1_0_0
  have larg5 := WholeBlock.load_unread harg5 x4 WholeBlock.zero2 inb_S128x64_S128x64_0_0
  have larg6 := WholeBlock.load_unread harg6 x5 WholeBlock.zero2 inb_S1x64_S1x64_0_0
  have larg8 := WholeBlock.load_unread harg8 xs0 WholeBlock.zero2 inb_S128x10000_S128x10000_0_0
  have larg9 := WholeBlock.load_unread harg9 xs1 WholeBlock.zero2 inb_S10000x128_S10000x128_0_0
  have lst9 := fun (w : Vec F S10000x128 .f32) (L : List (View.Piece (Elt F) S10000x128 .f32)) => WholeBlock.load_store arg9.view WholeBlock.zero2 inb_S10000x128_S10000x128_0_0 w L
  have lst8 := fun (w : Vec F S128x10000 .bf16) (L : List (View.Piece (Elt F) S128x10000 .bf16)) => WholeBlock.load_store arg8.view WholeBlock.zero2 inb_S128x10000_S128x10000_0_0 w L
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr
    swap; · iexact H6
    ipureintro
    refine (WholeBlock.read_store _ _ WholeBlock.zero2 _ _ _).trans ?_
    unfold run_last.sl.v22 run_last.sl.HS1_1

    simp only [larg1, larg2, larg3, larg4, larg5, larg6, larg8, larg9, lst8, lst9]
  isplitl [HS0]
  · iexists _; isplitr; · ipureintro; exact harg8.read_unread _
    iexact HS0
  · iexists _; isplitr
    swap; · iexact HS1
    ipureintro
    refine (WholeBlock.read_store _ _ WholeBlock.zero2 _ _ _).trans ?_

    simp only [larg1, larg2, larg3, larg4, larg5, larg6, larg8, larg9, lst8, lst9]

/-! ## What the scratch buffers and the output hold -/

variable (V : Dev nD → Valuation τ sig (Elt F))

/-- Window `w`'s block at point `t`, read off its array. -/
def iblk (c : Dev nD) (w : Fin cfg3.W) (t : Fin cfg3.N) : ((cfg3.win w).xblock (cfg3.grid.coords t)).Idx → Elt F (cfg3.win w).elt :=
  ((cfg3.win w).blk t).view.read (Elt F) (V c (Proc.devRef .tc (Pipeline.arrRef spec3 w)))

/-- The `n`-th grid point. -/
def pt (n : ℕ) : Fin cfg3.N := ⟨n % 8, by rw [show cfg3.N = 8 from N_3]; exact Nat.mod_lt _ (by decide)⟩

/-- A grid point is the one of its number. -/
theorem pt_val (t : Fin cfg3.N) : pt t.val = t :=
  Fin.ext (Nat.mod_eq_of_lt (lt_of_lt_of_eq t.isLt N_3))

/-- The transposed scaled input, as the first block stores it. -/
def sT (c : Dev nD) : Vec F S128x10000 .bf16 := k3_pay1 (iblk V c 0 (pt 0)) (iblk V c 3 (pt 0))

/-- The accumulator after the first `n` blocks. -/
def acc (c : Dev nD) : ℕ → Vec F S10000x128 .f32
  | 0 => k3_pay2
  | n + 1 => k3_pay3 (iblk V c 1 (pt n)) (sT V c) (iblk V c 2 (pt n)) (acc c n)

/-- The layer's output, as the last block forms it. -/
def out (c : Dev nD) : Vec F S10000x64 .f32 :=
  k3_pay4 (acc V c 8) (iblk V c 3 (pt 7)) (iblk V c 4 (pt 7)) (iblk V c 5 (pt 7))

/-! ## The invariant and the proof data -/

/-- The buffers of the call that neither a window stages nor the body uses as scratch. -/
abbrev restBut (c : Dev nD) : sProp 𝕄 := Pipeline.scopedRestBut (Ix := Unit) (Name := ℕ) (U := UR sig nD τ) (Lvl := ℕ) (Val := Elt F) spec3 c [cc3_scratch0, cc3_scratch1]

/-- Before block `n`: at the start every scratch buffer at anything; later the two scratch buffers at the transposed scaled
    input and at the accumulator after `n` blocks. -/
def PhiS (c : Dev nD) : ℕ → sProp 𝕄
  | 0 => Pipeline.scopedRest spec3 c
  | n + 1 => iprop(iprop(owns (c : Thread nD τ) (Memref.whole cc3_scratch0) fullShare (sT V c)
      ∗ owns (c : Thread nD τ) (Memref.whole cc3_scratch1) fullShare (acc V c (n + 1))) ∗ restBut c)

/-- The proof data of the call entered at the valuation `V c`: each input's buffer holds its block, the output's buffer
    ends at the layer's output. -/
def dat (c : Dev nD) : Dat τ (Elt F) Unit ℕ (UR sig nD τ) ℕ cfg3 c where
  A w := V c (Proc.devRef .tc (Pipeline.arrRef spec3 w))
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => out V c
  Φ t := PhiS V c t.val
  q _ := fullShare
  owed _ := 0

/-- The arrays are the valuation's. -/
theorem A_eq (c : Dev nD) (w : Fin cfg3.W) : (dat V c).A w = V c (Proc.devRef .tc (Pipeline.arrRef spec3 w)) := by
  dsimp only [dat]

/-- The scoped buffers no window stages, with the two scratch buffers as owned memrefs. -/
theorem scopedRest_eq (c : Dev nD) :
    (Pipeline.scopedRest spec3 c : sProp 𝕄)
      = iprop(iprop((∃ d, owns (c : Thread nD τ) (Memref.whole cc3_scratch0) fullShare d) ∗ (∃ d, owns (c : Thread nD τ) (Memref.whole cc3_scratch1) fullShare d)) ∗ restBut c) := by
  rw [scopedRest3_split]; simp only [owns_whole]; try rfl

theorem after_0 (c : Dev nD) (t : Fin cfg3.N) : (dat V c).after 0 t = iblk V c 0 t := by dsimp only [dat]
theorem after_1 (c : Dev nD) (t : Fin cfg3.N) : (dat V c).after 1 t = iblk V c 1 t := by dsimp only [dat]
theorem after_2 (c : Dev nD) (t : Fin cfg3.N) : (dat V c).after 2 t = iblk V c 2 t := by dsimp only [dat]
theorem after_3 (c : Dev nD) (t : Fin cfg3.N) : (dat V c).after 3 t = iblk V c 3 t := by dsimp only [dat]
theorem after_4 (c : Dev nD) (t : Fin cfg3.N) : (dat V c).after 4 t = iblk V c 4 t := by dsimp only [dat]
theorem after_5 (c : Dev nD) (t : Fin cfg3.N) : (dat V c).after 5 t = iblk V c 5 t := by dsimp only [dat]
theorem after_6 (c : Dev nD) (t : Fin cfg3.N) : (dat V c).after 6 t = out V c := by dsimp only [dat]

/-- Input window 0's buffer holds its block when the body runs. -/
theorem before_0 (c : Dev nD) (t : Fin cfg3.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
/-- Input window 1's buffer holds its block when the body runs. -/
theorem before_1 (c : Dev nD) (t : Fin cfg3.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
/-- Input window 2's buffer holds its block when the body runs. -/
theorem before_2 (c : Dev nD) (t : Fin cfg3.N) (d) : (dat V c).before 2 t d = iblk V c 2 t :=
  ((dat V c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
/-- Input window 3's buffer holds its block when the body runs. -/
theorem before_3 (c : Dev nD) (t : Fin cfg3.N) (d) : (dat V c).before 3 t d = iblk V c 3 t :=
  ((dat V c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
/-- Input window 4's buffer holds its block when the body runs. -/
theorem before_4 (c : Dev nD) (t : Fin cfg3.N) (d) : (dat V c).before 4 t d = iblk V c 4 t :=
  ((dat V c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
/-- Input window 5's buffer holds its block when the body runs. -/
theorem before_5 (c : Dev nD) (t : Fin cfg3.N) (d) : (dat V c).before 5 t d = iblk V c 5 t :=
  ((dat V c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)

/-- An input window's buffer is left at its block. -/
theorem leaves_0 (c : Dev nD) (t : Fin cfg3.N) :
    (dat V c).leavesExact 0 t = owns (c : Thread nD τ) (win3_0.stage (cfg3.slots t 0)) fullShare (iblk V c 0 t) := by
  unfold Dat.leavesExact; rw [show cfg3.idle 0 (cfg3.grid.coords t) = false from rfl, after_0]
/-- An input window's buffer is left at its block. -/
theorem leaves_1 (c : Dev nD) (t : Fin cfg3.N) :
    (dat V c).leavesExact 1 t = owns (c : Thread nD τ) (win3_1.stage (cfg3.slots t 1)) fullShare (iblk V c 1 t) := by
  unfold Dat.leavesExact; rw [show cfg3.idle 1 (cfg3.grid.coords t) = false from rfl, after_1]
/-- An input window's buffer is left at its block. -/
theorem leaves_2 (c : Dev nD) (t : Fin cfg3.N) :
    (dat V c).leavesExact 2 t = owns (c : Thread nD τ) (win3_2.stage (cfg3.slots t 2)) fullShare (iblk V c 2 t) := by
  unfold Dat.leavesExact; rw [show cfg3.idle 2 (cfg3.grid.coords t) = false from rfl, after_2]
/-- An input window's buffer is left at its block. -/
theorem leaves_3 (c : Dev nD) (t : Fin cfg3.N) :
    (dat V c).leavesExact 3 t = owns (c : Thread nD τ) (win3_3.stage (cfg3.slots t 3)) fullShare (iblk V c 3 t) := by
  unfold Dat.leavesExact; rw [show cfg3.idle 3 (cfg3.grid.coords t) = false from rfl, after_3]
/-- An input window's buffer is left at its block. -/
theorem leaves_4 (c : Dev nD) (t : Fin cfg3.N) :
    (dat V c).leavesExact 4 t = owns (c : Thread nD τ) (win3_4.stage (cfg3.slots t 4)) fullShare (iblk V c 4 t) := by
  unfold Dat.leavesExact; rw [show cfg3.idle 4 (cfg3.grid.coords t) = false from rfl, after_4]
/-- An input window's buffer is left at its block. -/
theorem leaves_5 (c : Dev nD) (t : Fin cfg3.N) :
    (dat V c).leavesExact 5 t = owns (c : Thread nD τ) (win3_5.stage (cfg3.slots t 5)) fullShare (iblk V c 5 t) := by
  unfold Dat.leavesExact; rw [show cfg3.idle 5 (cfg3.grid.coords t) = false from rfl, after_5]
/-- Before the last block the output's buffer is left as it was found. -/
theorem leaves_6_idle (c : Dev nD) (t : Fin cfg3.N) (h : ¬t.val % 8 = 7) :
    (dat V c).leavesExact 6 t = iprop(∃ d, owns (c : Thread nD τ) (win3_6.stage (cfg3.slots t 6)) fullShare ((dat V c).before 6 t d)) :=
  (dat V c).leavesExact_idle 6 t
    (show (!(k3_cond2 (grid3.coords t) == 1#1)) = true by
      have h' : ¬k3_cond2 (grid3.coords t) = 1#1 := fun e => h ((condLast_iff t).mp e)
      simpa using h')
    (Bool.eq_false_iff.mpr fun e => h ((flush3_6 t).mp e))
/-- At the last block the output's buffer is left at the layer's output. -/
theorem leaves_6_last (c : Dev nD) (t : Fin cfg3.N) (h : t.val % 8 = 7) :
    (dat V c).leavesExact 6 t = owns (c : Thread nD τ) (win3_6.stage (cfg3.slots t 6)) fullShare (out V c) := by
  unfold Dat.leavesExact
  rw [show cfg3.idle 6 (cfg3.grid.coords t) = false from by
    show (!(k3_cond2 (grid3.coords t) == 1#1)) = false
    have h' : k3_cond2 (grid3.coords t) = 1#1 := (condLast_iff t).mpr h
    simpa using h', after_6]

/-! ## The body obligation -/

/-- What the body is called with at point `t`, window by window. -/
def bodyPre (c : Dev nD) (t : Fin cfg3.N) : sProp 𝕄 :=
  iprop((dat V c).Φ t.castSucc ∗ (dat V c).owesAt () t.castSucc
    ∗ (∃ d, owns (c : Thread nD τ) (win3_0.stage (cfg3.slots t 0)) fullShare ((dat V c).before 0 t d))
    ∗ (∃ d, owns (c : Thread nD τ) (win3_1.stage (cfg3.slots t 1)) fullShare ((dat V c).before 1 t d))
    ∗ (∃ d, owns (c : Thread nD τ) (win3_2.stage (cfg3.slots t 2)) fullShare ((dat V c).before 2 t d))
    ∗ (∃ d, owns (c : Thread nD τ) (win3_3.stage (cfg3.slots t 3)) fullShare ((dat V c).before 3 t d))
    ∗ (∃ d, owns (c : Thread nD τ) (win3_4.stage (cfg3.slots t 4)) fullShare ((dat V c).before 4 t d))
    ∗ (∃ d, owns (c : Thread nD τ) (win3_5.stage (cfg3.slots t 5)) fullShare ((dat V c).before 5 t d))
    ∗ (∃ d, owns (c : Thread nD τ) (win3_6.stage (cfg3.slots t 6)) fullShare ((dat V c).before 6 t d)))

/-- What the body returns at point `t`, window by window. -/
def bodyPost (c : Dev nD) (t : Fin cfg3.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t)

set_option maxHeartbeats 4000000 in
/-- The body at any point: the case the point is in applies, and what it leaves is what the invariant names. -/
theorem sound_body (c : Dev nD) (t : Fin cfg3.N) :
    bodyPre V c t ⊢ wp frame (wpE (defs₀ (F := F)) Variants.none c none) Set.univ (bodyAt3 t) (fun _ => bodyPost V c t) := by
  have hN : t.val < 8 := lt_of_lt_of_eq t.isLt (show cfg3.N = 8 from N_3)
  unfold bodyPre bodyPost bodyAt3
  simp only [before_0, before_1, before_2, before_3, before_4, before_5]
  rw [show (dat V c).owesAt () t.succ = (dat V c).owesAt () t.castSucc from rfl,
    show (dat V c).Φ t.castSucc = PhiS V c t.val from rfl, show (dat V c).Φ t.succ = PhiS V c (t.val + 1) from rfl,
    leaves_0, leaves_1, leaves_2, leaves_3, leaves_4, leaves_5]
  by_cases h0 : t.val = 0
  · have h7 : ¬t.val % 8 = 7 := by omega
    rw [leaves_6_idle V c t h7]
    have hp : t = pt 0 := (pt_val t).symm.trans (congrArg pt h0)
    rw [h0, show PhiS V c 0 = Pipeline.scopedRest spec3 c from rfl, scopedRest_eq,
      show PhiS V c (0 + 1) = iprop(iprop(owns (c : Thread nD τ) (Memref.whole cc3_scratch0) fullShare (k3_pay1 (iblk V c 0 t) (iblk V c 3 t))
        ∗ owns (c : Thread nD τ) (Memref.whole cc3_scratch1) fullShare (k3_pay3 (iblk V c 1 t) (k3_pay1 (iblk V c 0 t) (iblk V c 3 t)) (iblk V c 2 t) k3_pay2)) ∗ restBut c) from by
          rw [hp]; rfl]
    iintro ⟨⟨⟨HS0, HS1⟩, Hr⟩, Ho, ⟨%d0, H0⟩, ⟨%d1, H1⟩, ⟨%d2, H2⟩, ⟨%d3, H3⟩, ⟨%d4, H4⟩, ⟨%d5, H5⟩, ⟨%d6, H6⟩⟩
    iapply (run_first c (grid3.coords t) _ _ _ _ _ _ _ _ _ _ _ _ _ _ _ _ _ _ ((condFirst_iff t).mpr (by omega)) (fun h => h7 ((condLast_iff t).mp h)) (iblk V c 0 t) (iblk V c 1 t) (iblk V c 2 t) (iblk V c 3 t) (iblk V c 4 t) (iblk V c 5 t) ((dat V c).before 6 t d6) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    iintro ⟨H0, H1, H2, H3, H4, H5, H6, HS0, HS1⟩
    isplitl [HS0 HS1 Hr]
    · isplitl [HS0 HS1]
      · isplitl [HS0]; · iexact HS0
        iexact HS1
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists d6; iexact H6
  · obtain ⟨n, hn⟩ : ∃ n, t.val = n + 1 := ⟨t.val - 1, by omega⟩
    have hacc : acc V c (t.val + 1) = k3_pay3 (iblk V c 1 t) (sT V c) (iblk V c 2 t) (acc V c (n + 1)) := by
      rw [hn]; show k3_pay3 (iblk V c 1 (pt (n + 1))) (sT V c) (iblk V c 2 (pt (n + 1))) (acc V c (n + 1)) = _
      rw [← hn, pt_val]
    have hc0 : ¬condFirst (grid3.coords t) := fun h => h0 (by have := (condFirst_iff t).mp h; omega)
    rw [show PhiS V c (t.val + 1) = iprop(iprop(owns (c : Thread nD τ) (Memref.whole cc3_scratch0) fullShare (sT V c)
        ∗ owns (c : Thread nD τ) (Memref.whole cc3_scratch1) fullShare (acc V c (t.val + 1))) ∗ restBut c) from rfl, hacc,
      show PhiS V c t.val = iprop(iprop(owns (c : Thread nD τ) (Memref.whole cc3_scratch0) fullShare (sT V c)
        ∗ owns (c : Thread nD τ) (Memref.whole cc3_scratch1) fullShare (acc V c (n + 1))) ∗ restBut c) from by rw [hn]; rfl]
    by_cases h7 : t.val % 8 = 7
    · have hp : pt 7 = t := by rw [← pt_val t]; exact congrArg pt (by omega)
      have ho : out V c = k3_pay4 (k3_pay3 (iblk V c 1 t) (sT V c) (iblk V c 2 t) (acc V c (n + 1))) (iblk V c 3 t) (iblk V c 4 t) (iblk V c 5 t) := by
        rw [← hacc, show t.val + 1 = 8 from by omega, out, hp]
      rw [leaves_6_last V c t h7, ho]
      iintro ⟨⟨⟨HS0, HS1⟩, Hr⟩, Ho, ⟨%d0, H0⟩, ⟨%d1, H1⟩, ⟨%d2, H2⟩, ⟨%d3, H3⟩, ⟨%d4, H4⟩, ⟨%d5, H5⟩, ⟨%d6, H6⟩⟩
      iapply (run_last c (grid3.coords t) _ _ _ _ _ _ _ _ _ _ _ _ _ _ _ _ _ _ hc0 ((condLast_iff t).mpr h7) (iblk V c 0 t) (iblk V c 1 t) (iblk V c 2 t) (iblk V c 3 t) (iblk V c 4 t) (iblk V c 5 t) ((dat V c).before 6 t d6) (sT V c) (acc V c (n + 1)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, HS0, HS1⟩
      isplitl [HS0 HS1 Hr]
      · isplitl [HS0 HS1]
        · isplitl [HS0]; · iexact HS0
          iexact HS1
        iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [leaves_6_idle V c t h7]
      iintro ⟨⟨⟨HS0, HS1⟩, Hr⟩, Ho, ⟨%d0, H0⟩, ⟨%d1, H1⟩, ⟨%d2, H2⟩, ⟨%d3, H3⟩, ⟨%d4, H4⟩, ⟨%d5, H5⟩, ⟨%d6, H6⟩⟩
      iapply (run_mid c (grid3.coords t) _ _ _ _ _ _ _ _ _ _ _ _ _ _ _ _ _ _ hc0 (fun h => h7 ((condLast_iff t).mp h)) (iblk V c 0 t) (iblk V c 1 t) (iblk V c 2 t) (iblk V c 3 t) (iblk V c 4 t) (iblk V c 5 t) ((dat V c).before 6 t d6) (sT V c) (acc V c (n + 1)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, HS0, HS1⟩
      isplitl [HS0 HS1 Hr]
      · isplitl [HS0 HS1]
        · isplitl [HS0]; · iexact HS0
          iexact HS1
        iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists d6; iexact H6

/-- The call's body at point `t` is the layer's body on the windows' buffers. -/
theorem defs₀_row (t : Fin cfg3.N) :
    defs₀ (F := F) .tc cfg3.body (cfg3.bodyArgs t (cfg3.slots t)) = bodyAt3 t := by
  unfold defs₀; rw [Defs.onTc_tc]

/-- The body meets its obligation at every point. -/
theorem body_obligation (c : Dev nD) : BodyObligation (dat (F := F) V c) (defs₀ (F := F)) Variants.none () Set.univ := fun t => by
  rw [bigSep_W3, bigSep_W3, defs₀_row]
  exact triple_restated (sound_body V c t) rfl .rfl fun _ => .rfl

/-- After the last block the scratch buffers are given back at anything. -/
theorem Phi_last (c : Dev nD) : (dat V c).Φ (Fin.last cfg3.N) ⊢ (Pipeline.scopedRest spec3 c : sProp 𝕄) := by
  rw [show (dat V c).Φ (Fin.last cfg3.N) = PhiS V c (7 + 1) from by
    dsimp only [dat]; rw [Fin.val_last, show cfg3.N = 7 + 1 from N_3], scopedRest_eq, PhiS]
  iintro ⟨⟨HS0, HS1⟩, Hr⟩
  isplitl [HS0 HS1]
  · isplitl [HS0]
    · iexists _; iexact HS0
    iexists _; iexact HS1
  iexact Hr

end Cert.Proof.Layer3

end
-- ==== Proof.Run.lean ====
/-
  The whole program's run: four kernel calls with the host's reshapes between them.

  Between two items every unscoped buffer is held whole at a valuation: the launch memory, then what each kernel call
  leaves and what each stretch of reshapes leaves. The run ends with every unscoped buffer at the last valuation and every
  semaphore counter at zero.
-/
module

public import proofs.«01_k».proof.Proof.DegCast
public import proofs.«01_k».proof.Proof.Layer1
public import proofs.«01_k».proof.Proof.Layer2
public import proofs.«01_k».proof.Proof.Layer3
public import proofs.«01_k».proof.Proof.Gen.KernelIdeal.Regions
public import Idealize.ShloMosaic.Lib.Pipeline.RegionArraysS

@[expose] public section

set_option maxRecDepth 16384

noncomputable section

namespace Cert.Proof.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The valuations between the items -/

/-- The buffers at launch; -/
def W0 (c : Dev nD) : Valuation τ sig (Elt F) := fun b => m (c, b)
/-- after the degree call; -/
def W1 (c : Dev nD) : Valuation τ sig (Elt F) := Pipeline.afterRegion (DegCast.dat (W0 m) c) (W0 m c)
/-- after the reshapes of the inverse hyperedge degrees and of the first bias; -/
def W2 (c : Dev nD) : Valuation τ sig (Elt F) := StableHlo.after hostOps1 (W1 m c)
/-- after the first layer; -/
def W3 (c : Dev nD) : Valuation τ sig (Elt F) := Pipeline.afterRegion (Layer1.dat (W2 m) c) (W2 m c)
/-- after the reshape of the second bias; -/
def W4 (c : Dev nD) : Valuation τ sig (Elt F) := StableHlo.after hostOps2 (W3 m c)
/-- after the second layer; -/
def W5 (c : Dev nD) : Valuation τ sig (Elt F) := Pipeline.afterRegion (Layer2.dat (W4 m) c) (W4 m c)
/-- after the reshape of the third bias; -/
def W6 (c : Dev nD) : Valuation τ sig (Elt F) := StableHlo.after hostOps3 (W5 m c)
/-- at the end. -/
def W7 (c : Dev nD) : Valuation τ sig (Elt F) := Pipeline.afterRegion (Layer3.dat (W6 m) c) (W6 m c)

/-! ## The segments -/

/-- The four calls' proof data, each entered at the valuation before it. -/
def pdats : (p : Fin 4) → (c : Dev nD) → Dat τ (Elt F) Unit ℕ (UR sig nD τ) ℕ (cfgs p) c
  | 0 => fun c => DegCast.dat (W0 m) c
  | 1 => fun c => Layer1.dat (W2 m) c
  | 2 => fun c => Layer2.dat (W4 m) c
  | 3 => fun c => Layer3.dat (W6 m) c

/-- Every core's cells carry the one index … -/
abbrev L : GSem nD τ sig → Finset Unit := fun g => if g.1.2 = .tc then {()} else ∅
/-- … at level zero. -/
abbrev lv : GSem nD τ sig → Unit → ℕ := fun _ _ => 0

/-- Nothing is owed, so the levels cut trivially. -/
theorem levelCut (p : Fin 4) : Pipeline.LevelCut (pcfgs (F := F)) adm () L lv p (fun _ => 0) (fun _ => 0) where
  hι c w s := by show () ∈ L _; rw [show L ((c : Thread nD τ), _) = {()} from if_pos rfl]; exact Finset.mem_singleton_self _
  hιb _ _ _ := le_rfl
  hD _ _ _ h := absurd h (Nat.lt_irrefl 0)

/-- A unit beside an assertion goes … -/
theorem drop_unit {P : sProp 𝕄} : iprop(P ∗ (BI.emp : sProp 𝕄)) ⊢ P := by
  iintro ⟨H, -⟩; iexact H
/-- … and comes. -/
theorem add_unit {P : sProp 𝕄} : P ⊢ iprop(P ∗ (BI.emp : sProp 𝕄)) := by
  iintro H
  isplitl [H]; · iexact H
  iempintro

/-- What rides beside the buffers: the core owing nothing. -/
abbrev E (c : Dev nD) : sProp 𝕄 :=
  iprop((∃ Wd, owes (c : Thread nD τ) (0 : CellTallies nD τ sig Unit) Wd) ∗ (BI.emp : sProp 𝕄) ∗ (BI.emp : sProp 𝕄))

set_option backward.isDefEq.respectTransparency.types false in
/-- A call's record from its proof data: the buffers are held at one valuation, nothing is owed and nothing else crosses. -/
def record
    (pd : (p : Fin 4) → (c : Dev nD) → Dat τ (Elt F) Unit ℕ (UR sig nD τ) ℕ (Pipeline.pin (pcfgs (F := F)) adm p) c) (p : Fin 4)
    (V : Dev nD → Valuation τ sig (Elt F))
    (kit : Pipeline.PLaunchFacts (nD := nD) (τ := τ) (pcfgs (F := F)) p) (hK : (pcfgs (F := F) p).pre.K = 0)
    (hbody : ∀ c, Pipeline.BodyObligationLoose (pd p c) defs₀ Variants.none () Set.univ)
    (howed : ∀ c t, (pd p c).owed t = 0) (hrec : ∀ c, (pd p c).recorded 0 = Set.univ)
    (hshare : ∀ c w, (pd p c).share w = fullShare)
    (hin : ∀ c, iprop((Pipeline.scopedRest (Pipeline.pin (pcfgs (F := F)) adm p).spec c : sProp 𝕄) ∗ (BI.emp : sProp 𝕄)) ⊢ (pd p c).Φ 0)
    (hout : ∀ c, (pd p c).Φ (Fin.last (Pipeline.pin (pcfgs (F := F)) adm p).N) ⊢ iprop((Pipeline.scopedRest (Pipeline.pin (pcfgs (F := F)) adm p).spec c : sProp 𝕄) ∗ (BI.emp : sProp 𝕄)))
    (hW : ∀ c w, (pd p c).arrAt w 0 = V c (Proc.devRef .tc (Pipeline.arrRef (Pipeline.pin (pcfgs (F := F)) adm p).spec w))) : RegionSeg (pcfgs (F := F)) adm pd () defs₀ Variants.none L lv p :=
  RegionSeg.ofHeldIn (pcfgs (F := F)) adm pd () defs₀ Variants.none L lv p (fun _ => 0) (Pipeline.ucRefs τ sig)
    (fun _ => BI.emp) (fun _ => BI.emp) kit hK hbody howed hrec hshare hin hout
    (fun _ => 0) (levelCut p) (fun _ => BI.emp) V hW

set_option backward.isDefEq.respectTransparency.types false in
/-- It is entered with every buffer at the valuation before it, -/
theorem record_pre
    (pd : (p : Fin 4) → (c : Dev nD) → Dat τ (Elt F) Unit ℕ (UR sig nD τ) ℕ (Pipeline.pin (pcfgs (F := F)) adm p) c) (p : Fin 4)
    (V : Dev nD → Valuation τ sig (Elt F))
    (kit : Pipeline.PLaunchFacts (nD := nD) (τ := τ) (pcfgs (F := F)) p) (hK : (pcfgs (F := F) p).pre.K = 0)
    (hbody : ∀ c, Pipeline.BodyObligationLoose (pd p c) defs₀ Variants.none () Set.univ)
    (howed : ∀ c t, (pd p c).owed t = 0) (hrec : ∀ c, (pd p c).recorded 0 = Set.univ)
    (hshare : ∀ c w, (pd p c).share w = fullShare)
    (hin : ∀ c, iprop((Pipeline.scopedRest (Pipeline.pin (pcfgs (F := F)) adm p).spec c : sProp 𝕄) ∗ (BI.emp : sProp 𝕄)) ⊢ (pd p c).Φ 0)
    (hout : ∀ c, (pd p c).Φ (Fin.last (Pipeline.pin (pcfgs (F := F)) adm p).N) ⊢ iprop((Pipeline.scopedRest (Pipeline.pin (pcfgs (F := F)) adm p).spec c : sProp 𝕄) ∗ (BI.emp : sProp 𝕄)))
    (hW : ∀ c w, (pd p c).arrAt w 0 = V c (Proc.devRef .tc (Pipeline.arrRef (Pipeline.pin (pcfgs (F := F)) adm p).spec w)))
    (hS : Pipeline.arrRefs (τ := τ) (pcfgs (F := F) p).spec ⊆ Pipeline.ucRefs τ sig) (c : Dev nD) :
    iprop(StableHlo.held (c : Thread nD τ) (Pipeline.ucRefs τ sig) (V c) ∗ E c) ⊢ (record pd p V kit hK hbody howed hrec hshare hin hout hW).pre c :=
  RegionSeg.ofHeldIn_pre (pcs := pcfgs (F := F)) (a := adm) (pdats := pd) (p := p) (D := fun _ => 0) (X := fun _ => BI.emp) (Y := fun _ => BI.emp) (R := fun _ => BI.emp) (W := V) (b := fun _ => 0) (hcut := levelCut p) hS c

set_option backward.isDefEq.respectTransparency.types false in
/-- and left with every buffer at the valuation that the call leaves. -/
theorem record_post
    (pd : (p : Fin 4) → (c : Dev nD) → Dat τ (Elt F) Unit ℕ (UR sig nD τ) ℕ (Pipeline.pin (pcfgs (F := F)) adm p) c) (p : Fin 4)
    (V : Dev nD → Valuation τ sig (Elt F))
    (kit : Pipeline.PLaunchFacts (nD := nD) (τ := τ) (pcfgs (F := F)) p) (hK : (pcfgs (F := F) p).pre.K = 0)
    (hbody : ∀ c, Pipeline.BodyObligationLoose (pd p c) defs₀ Variants.none () Set.univ)
    (howed : ∀ c t, (pd p c).owed t = 0) (hrec : ∀ c, (pd p c).recorded 0 = Set.univ)
    (hshare : ∀ c w, (pd p c).share w = fullShare)
    (hin : ∀ c, iprop((Pipeline.scopedRest (Pipeline.pin (pcfgs (F := F)) adm p).spec c : sProp 𝕄) ∗ (BI.emp : sProp 𝕄)) ⊢ (pd p c).Φ 0)
    (hout : ∀ c, (pd p c).Φ (Fin.last (Pipeline.pin (pcfgs (F := F)) adm p).N) ⊢ iprop((Pipeline.scopedRest (Pipeline.pin (pcfgs (F := F)) adm p).spec c : sProp 𝕄) ∗ (BI.emp : sProp 𝕄)))
    (hW : ∀ c w, (pd p c).arrAt w 0 = V c (Proc.devRef .tc (Pipeline.arrRef (Pipeline.pin (pcfgs (F := F)) adm p).spec w)))
    (hS : Pipeline.arrRefs (τ := τ) (pcfgs (F := F) p).spec ⊆ Pipeline.ucRefs τ sig) (c : Dev nD) :
    (record pd p V kit hK hbody howed hrec hshare hin hout hW).post c
      ⊢ iprop(StableHlo.held (c : Thread nD τ) (Pipeline.ucRefs τ sig) (Pipeline.afterRegion (pd p c) (V c)) ∗ E c) :=
  RegionSeg.ofHeldIn_post (pcs := pcfgs (F := F)) (a := adm) (pdats := pd) (p := p) (D := fun _ => 0) (X := fun _ => BI.emp) (Y := fun _ => BI.emp) (R := fun _ => BI.emp) (W := V) (b := fun _ => 0) (hcut := levelCut p) hS c

/-- Its arrays are unscoped buffers. -/
theorem arrays0 : Pipeline.arrRefs (τ := τ) spec0 ⊆ Pipeline.ucRefs τ sig := Pipeline.arrRefs_sub_ucRefs spec0 (by decide)

/-- The degree call starts from the buffers no window names, -/
theorem in0 (c : Dev nD) : iprop((Pipeline.scopedRest spec0 c : sProp 𝕄) ∗ (BI.emp : sProp 𝕄)) ⊢ (DegCast.dat (W0 m) c).Φ 0 := by
  show _ ⊢ (Pipeline.scopedRest spec0 c : sProp 𝕄)
  exact drop_unit
/-- and ends with them. -/
theorem out0 (c : Dev nD) : (DegCast.dat (W0 m) c).Φ (Fin.last cfg0.N) ⊢ iprop((Pipeline.scopedRest spec0 c : sProp 𝕄) ∗ (BI.emp : sProp 𝕄)) := by
  show (Pipeline.scopedRest spec0 c : sProp 𝕄) ⊢ _
  exact add_unit

set_option backward.isDefEq.respectTransparency.types false in
/-- The record of the degree call; -/
def reg0 : RegionSeg (pcfgs (F := F)) adm (pdats m) () defs₀ Variants.none L lv 0 :=
  record (pdats m) 0 (W0 m) launch0.toP rfl (DegCast.body_obligation (W0 m)) (fun _ _ => rfl) (fun _ => rfl)
    (fun c => (DegCast.dat (W0 m) c).share_full fun _ => rfl)
    (in0 m) (out0 m)
    (fun c w => DegCast.A_eq (W0 m) c w)

set_option backward.isDefEq.respectTransparency.types false in
/-- it is entered with every buffer at the valuation before it, -/
theorem pre0 (c : Dev nD) : iprop(StableHlo.held (c : Thread nD τ) (Pipeline.ucRefs τ sig) (W0 m c) ∗ E c) ⊢ (reg0 m).pre c := by
  exact record_pre (pdats m) 0 (W0 m) _ _ _ _ _ _ _ _ _ arrays0 c

set_option backward.isDefEq.respectTransparency.types false in
/-- and left with every buffer at the valuation after it. -/
theorem post0 (c : Dev nD) : (reg0 m).post c ⊢ iprop(StableHlo.held (c : Thread nD τ) (Pipeline.ucRefs τ sig) (W1 m c) ∗ E c) := by
  exact record_post (pdats m) 0 (W0 m) _ _ _ _ _ _ _ _ _ arrays0 c

/-- Its arrays are unscoped buffers. -/
theorem arrays1 : Pipeline.arrRefs (τ := τ) spec1 ⊆ Pipeline.ucRefs τ sig := Pipeline.arrRefs_sub_ucRefs spec1 (by decide)

/-- The first layer starts from the buffers no window names, -/
theorem in1 (c : Dev nD) : iprop((Pipeline.scopedRest spec1 c : sProp 𝕄) ∗ (BI.emp : sProp 𝕄)) ⊢ (Layer1.dat (W2 m) c).Φ 0 := by
  show _ ⊢ (Pipeline.scopedRest spec1 c : sProp 𝕄)
  exact drop_unit
/-- and ends with them. -/
theorem out1 (c : Dev nD) : (Layer1.dat (W2 m) c).Φ (Fin.last cfg1.N) ⊢ iprop((Pipeline.scopedRest spec1 c : sProp 𝕄) ∗ (BI.emp : sProp 𝕄)) := by
  exact (Layer1.Phi_last (W2 m) c).trans add_unit

set_option backward.isDefEq.respectTransparency.types false in
/-- The record of the first layer; -/
def reg1 : RegionSeg (pcfgs (F := F)) adm (pdats m) () defs₀ Variants.none L lv 1 :=
  record (pdats m) 1 (W2 m) launch1.toP rfl (fun c => (Layer1.body_obligation (W2 m) c).loose) (fun _ _ => rfl) (fun _ => rfl)
    (fun c => (Layer1.dat (W2 m) c).share_full fun _ => rfl)
    (in1 m) (out1 m)
    (fun c w => Layer1.A_eq (W2 m) c w)

set_option backward.isDefEq.respectTransparency.types false in
/-- it is entered with every buffer at the valuation before it, -/
theorem pre1 (c : Dev nD) : iprop(StableHlo.held (c : Thread nD τ) (Pipeline.ucRefs τ sig) (W2 m c) ∗ E c) ⊢ (reg1 m).pre c := by
  exact record_pre (pdats m) 1 (W2 m) _ _ _ _ _ _ _ _ _ arrays1 c

set_option backward.isDefEq.respectTransparency.types false in
/-- and left with every buffer at the valuation after it. -/
theorem post1 (c : Dev nD) : (reg1 m).post c ⊢ iprop(StableHlo.held (c : Thread nD τ) (Pipeline.ucRefs τ sig) (W3 m c) ∗ E c) := by
  exact record_post (pdats m) 1 (W2 m) _ _ _ _ _ _ _ _ _ arrays1 c

/-- Its arrays are unscoped buffers. -/
theorem arrays2 : Pipeline.arrRefs (τ := τ) spec2 ⊆ Pipeline.ucRefs τ sig := Pipeline.arrRefs_sub_ucRefs spec2 (by decide)

/-- The second layer starts from the buffers no window names, -/
theorem in2 (c : Dev nD) : iprop((Pipeline.scopedRest spec2 c : sProp 𝕄) ∗ (BI.emp : sProp 𝕄)) ⊢ (Layer2.dat (W4 m) c).Φ 0 := by
  show _ ⊢ (Pipeline.scopedRest spec2 c : sProp 𝕄)
  exact drop_unit
/-- and ends with them. -/
theorem out2 (c : Dev nD) : (Layer2.dat (W4 m) c).Φ (Fin.last cfg2.N) ⊢ iprop((Pipeline.scopedRest spec2 c : sProp 𝕄) ∗ (BI.emp : sProp 𝕄)) := by
  exact (Layer2.Phi_last (W4 m) c).trans add_unit

set_option backward.isDefEq.respectTransparency.types false in
/-- The record of the second layer; -/
def reg2 : RegionSeg (pcfgs (F := F)) adm (pdats m) () defs₀ Variants.none L lv 2 :=
  record (pdats m) 2 (W4 m) launch2.toP rfl (fun c => (Layer2.body_obligation (W4 m) c).loose) (fun _ _ => rfl) (fun _ => rfl)
    (fun c => (Layer2.dat (W4 m) c).share_full fun _ => rfl)
    (in2 m) (out2 m)
    (fun c w => Layer2.A_eq (W4 m) c w)

set_option backward.isDefEq.respectTransparency.types false in
/-- it is entered with every buffer at the valuation before it, -/
theorem pre2 (c : Dev nD) : iprop(StableHlo.held (c : Thread nD τ) (Pipeline.ucRefs τ sig) (W4 m c) ∗ E c) ⊢ (reg2 m).pre c := by
  exact record_pre (pdats m) 2 (W4 m) _ _ _ _ _ _ _ _ _ arrays2 c

set_option backward.isDefEq.respectTransparency.types false in
/-- and left with every buffer at the valuation after it. -/
theorem post2 (c : Dev nD) : (reg2 m).post c ⊢ iprop(StableHlo.held (c : Thread nD τ) (Pipeline.ucRefs τ sig) (W5 m c) ∗ E c) := by
  exact record_post (pdats m) 2 (W4 m) _ _ _ _ _ _ _ _ _ arrays2 c

/-- Its arrays are unscoped buffers. -/
theorem arrays3 : Pipeline.arrRefs (τ := τ) spec3 ⊆ Pipeline.ucRefs τ sig := Pipeline.arrRefs_sub_ucRefs spec3 (by decide)

/-- The third layer starts from the buffers no window names, -/
theorem in3 (c : Dev nD) : iprop((Pipeline.scopedRest spec3 c : sProp 𝕄) ∗ (BI.emp : sProp 𝕄)) ⊢ (Layer3.dat (W6 m) c).Φ 0 := by
  show _ ⊢ (Pipeline.scopedRest spec3 c : sProp 𝕄)
  exact drop_unit
/-- and ends with them. -/
theorem out3 (c : Dev nD) : (Layer3.dat (W6 m) c).Φ (Fin.last cfg3.N) ⊢ iprop((Pipeline.scopedRest spec3 c : sProp 𝕄) ∗ (BI.emp : sProp 𝕄)) := by
  exact (Layer3.Phi_last (W6 m) c).trans add_unit

set_option backward.isDefEq.respectTransparency.types false in
/-- The record of the third layer; -/
def reg3 : RegionSeg (pcfgs (F := F)) adm (pdats m) () defs₀ Variants.none L lv 3 :=
  record (pdats m) 3 (W6 m) launch3.toP rfl (fun c => (Layer3.body_obligation (W6 m) c).loose) (fun _ _ => rfl) (fun _ => rfl)
    (fun c => (Layer3.dat (W6 m) c).share_full fun _ => rfl)
    (in3 m) (out3 m)
    (fun c w => Layer3.A_eq (W6 m) c w)

set_option backward.isDefEq.respectTransparency.types false in
/-- it is entered with every buffer at the valuation before it, -/
theorem pre3 (c : Dev nD) : iprop(StableHlo.held (c : Thread nD τ) (Pipeline.ucRefs τ sig) (W6 m c) ∗ E c) ⊢ (reg3 m).pre c := by
  exact record_pre (pdats m) 3 (W6 m) _ _ _ _ _ _ _ _ _ arrays3 c

set_option backward.isDefEq.respectTransparency.types false in
/-- and left with every buffer at the valuation after it. -/
theorem post3 (c : Dev nD) : (reg3 m).post c ⊢ iprop(StableHlo.held (c : Thread nD τ) (Pipeline.ucRefs τ sig) (W7 m c) ∗ E c) := by
  exact record_post (pdats m) 3 (W6 m) _ _ _ _ _ _ _ _ _ arrays3 c

/-! ## The run -/

section Chain

variable (pd : (p : Fin 4) → (c : Dev nD) → Dat τ (Elt F) Unit ℕ (UR sig nD τ) ℕ (cfgs p) c)
variable (V0 V1 V3 V5 V7 : Dev nD → Valuation τ sig (Elt F))

/-- A stretch of reshapes entered at a valuation. -/
abbrev host1 : HostSeg (Ix := Unit) (Name := ℕ) (U := UR sig nD τ) (Lvl := ℕ) (pcfgs (F := F)) defs₀ Variants.none L lv :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) V1 E
/-- The second such stretch. -/
abbrev host2 : HostSeg (Ix := Unit) (Name := ℕ) (U := UR sig nD τ) (Lvl := ℕ) (pcfgs (F := F)) defs₀ Variants.none L lv :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) V3 E
/-- The third. -/
abbrev host3 : HostSeg (Ix := Unit) (Name := ℕ) (U := UR sig nD τ) (Lvl := ℕ) (pcfgs (F := F)) defs₀ Variants.none L lv :=
  HostSeg.ofOps _ _ _ _ _ (Pipeline.ucRefs τ sig) hostOps3
    (fun op h => Pipeline.sub_ucRefs op ((List.forall_iff_forall_mem.mp hostOps3_sub) op h))
    (fun op h => (List.forall_iff_forall_mem.mp hostOps3_fresh) op h) V5 E

/-- The program as its list of items. -/
abbrev items (R0 : RegionSeg (pcfgs (F := F)) adm pd () defs₀ Variants.none L lv 0)
    (R1 : RegionSeg (pcfgs (F := F)) adm pd () defs₀ Variants.none L lv 1)
    (R2 : RegionSeg (pcfgs (F := F)) adm pd () defs₀ Variants.none L lv 2)
    (R3 : RegionSeg (pcfgs (F := F)) adm pd () defs₀ Variants.none L lv 3) (c : Dev nD) :
    List (Seg (pcfgs (F := F)) adm pd () defs₀ Variants.none L lv) :=
  [.region R0, .host (host1 V1), .region R1, .host (host2 V3), .region R2, .host (host3 V5), .region R3]

set_option backward.isDefEq.respectTransparency.types false in
/-- Four call records whose entries and exits meet the reshapes' valuations make the run. -/
theorem run_of (ρ : Dev nD → PrngReg) (hV0 : ∀ c, V0 c = fun b => m (c, b))
    (R0 : RegionSeg (pcfgs (F := F)) adm pd () defs₀ Variants.none L lv 0)
    (R1 : RegionSeg (pcfgs (F := F)) adm pd () defs₀ Variants.none L lv 1)
    (R2 : RegionSeg (pcfgs (F := F)) adm pd () defs₀ Variants.none L lv 2)
    (R3 : RegionSeg (pcfgs (F := F)) adm pd () defs₀ Variants.none L lv 3)
    (hpre0 : ∀ c : Dev nD, iprop(StableHlo.held (c : Thread nD τ) (Pipeline.ucRefs τ sig) (V0 c) ∗ E c) ⊢ R0.pre c)
    (hpost0 : ∀ c : Dev nD, R0.post c ⊢ iprop(StableHlo.held (c : Thread nD τ) (Pipeline.ucRefs τ sig) (V1 c) ∗ E c))
    (hpre1 : ∀ c : Dev nD, iprop(StableHlo.held (c : Thread nD τ) (Pipeline.ucRefs τ sig) (StableHlo.after hostOps1 (V1 c)) ∗ E c) ⊢ R1.pre c)
    (hpost1 : ∀ c : Dev nD, R1.post c ⊢ iprop(StableHlo.held (c : Thread nD τ) (Pipeline.ucRefs τ sig) (V3 c) ∗ E c))
    (hpre2 : ∀ c : Dev nD, iprop(StableHlo.held (c : Thread nD τ) (Pipeline.ucRefs τ sig) (StableHlo.after hostOps2 (V3 c)) ∗ E c) ⊢ R2.pre c)
    (hpost2 : ∀ c : Dev nD, R2.post c ⊢ iprop(StableHlo.held (c : Thread nD τ) (Pipeline.ucRefs τ sig) (V5 c) ∗ E c))
    (hpre3 : ∀ c : Dev nD, iprop(StableHlo.held (c : Thread nD τ) (Pipeline.ucRefs τ sig) (StableHlo.after hostOps3 (V5 c)) ∗ E c) ⊢ R3.pre c)
    (hpost3 : ∀ c : Dev nD, R3.post c ⊢ iprop(StableHlo.held (c : Thread nD τ) (Pipeline.ucRefs τ sig) (V7 c) ∗ E c)) :
    θ_run defs (onTc (τ := τ) (main (F := F))) ⟨m, fun _ => 0, ρ⟩ (fun r =>
      (∀ c : Dev nD, ∀ b ∈ Pipeline.ucRefs τ sig, r.2.mem (c, b) = V7 c b) ∧ r.2.sem = fun _ => 0) := by
  refine Pipeline.θ_run_regions_kit_dev_sems (pcfgs (F := F)) adm pd () cellOf_inj Idealize.ShloMosaic.emb₁ defs₀ Variants.none L lv m ρ main
    (items pd V1 V3 V5 R0 R1 R2 R3)
    (fun c Q => by
      rewrite [main_chain c, Seg.run_eq_chain,
        show (items pd V1 V3 V5 R0 R1 R2 R3 c).map Seg.prog = [
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()) ] from rfl]
      dsimp (config := { failIfUnchanged := false }) only
      exact .rfl)
    (fun c => by simp only [items, Seg.pipes_host, Seg.pipes_region, Seg.pipes_nil]; decide) (fun _ => 0)
    (fun g hg => if_neg hg) (fun _ => BI.emp)
    (initOf (Pipeline.cells cfgs cellOf_inj) (Pipeline.launchToks cfgs cellOf_inj))
    (by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 c) ∗ E c))
    (Tₙ := fun c => StableHlo.held (c : Thread nD τ) (Pipeline.ucRefs τ sig) (V7 c))
    (hch := fun c => ⟨hpre0 c, hpost0 c, hpre1 c, hpost1 c, hpre2 c, hpost2 c, hpre3 c,
      (hpost3 c).trans (sep_mono .rfl (by iintro ⟨H, -, -⟩; iexact H))⟩)
    (hinit := ?_) (QY := fun c s => ∀ b ∈ Pipeline.ucRefs τ sig, s.mem (c, b) = V7 c b)
    (hfin := fun c s' => ?_) (hQ := fun _ h hz => ⟨h, funext fun g => hz g (.inr (regions_no_unscoped g.2))⟩)
  · refine Pipeline.initEach L lv fun c => ?_
    rw [hV0 c, show unscopedBufs c (fun b => m ((c : Thread nD τ).loc b)) = StableHlo.held (c : Thread nD τ) (Pipeline.ucRefs τ sig) (fun b => m (c, b)) from
      Pipeline.unscopedBufs_held c (fun b => m (c, b))]
    iintro ⟨⟨Hh, -, HO, -, -, -⟩, -⟩
    imodintro
    isplitl [Hh]; · iexact Hh
    isplitl [HO]; · iexists ∅; iexact HO
    isplitr <;> iempintro
  · unfold StableHlo.held
    iintro ⟨Hh, HSI⟩
    ihave Hr := (pointsTo_read_all (Pipeline.ucRefs τ sig) (fun b => ((c : Thread nD τ).1, b)) (V7 c) s') $$ [Hh HSI]
    · isplitl [Hh] <;> iassumption
    icases Hr with ⟨%h, HSI⟩
    imodintro
    isplitr
    · ipureintro; exact h
    iexact HSI

end Chain

/-- From any memory with zero counters every weakly fair execution terminates, and at its end every unscoped buffer is at the
    last valuation and every counter is at zero. -/
theorem run (ρ : Dev nD → PrngReg) :
    θ_run defs (onTc (τ := τ) (main (F := F))) ⟨m, fun _ => 0, ρ⟩ (fun r =>
      (∀ c : Dev nD, ∀ b ∈ Pipeline.ucRefs τ sig, r.2.mem (c, b) = W7 m c b) ∧ r.2.sem = fun _ => 0) :=
  run_of m (pdats m) (W0 m) (W1 m) (W3 m) (W5 m) (W7 m) ρ (fun _ => rfl) (reg0 m) (reg1 m) (reg2 m) (reg3 m)
    (pre0 m) (post0 m) (pre1 m) (post1 m) (pre2 m) (post2 m) (pre3 m) (post3 m)

end Cert.Proof.Run

end
-- ==== Proof.SameProgram.lean ====
/-
  The kernel and its idealized print are one program: no operation was rewritten, so the tables of bodies and the entry
  functions are equal, over any float instance.
-/
module

public import proofs.«01_k».proof.Defs
public import proofs.«01_k».proof.Proof.Gen.Kernel
public import proofs.«01_k».proof.Proof.Gen.KernelIdeal

@[expose] public section
set_option maxRecDepth 16384
noncomputable section
namespace Cert.Proof
open Idealize.ShloMosaic Idealize.SL.Sem Idealize.ShloMosaic.TcCoe

variable {F : FTy → Type} [FloatOps F]
open Cert.Kernel.Gen Cert.KernelIdeal.Gen
set_option maxHeartbeats 4000000

/-- The kernels' bodies are equal. -/
theorem d0_eq : (Cert.Kernel.defs₀ (F := F)) = ((Cert.KernelIdeal.defs₀ (F := F) : Defs Cert.KernelIdeal.nD Cert.KernelIdeal.τ Cert.KernelIdeal.sig (Elt F) Cert.KernelIdeal.Λ₀) : Defs Cert.Kernel.nD Cert.Kernel.τ Cert.Kernel.sig (Elt F) Cert.Kernel.Λ₀) := by
  funext pr l x
  unfold Cert.Kernel.defs₀ Cert.KernelIdeal.defs₀
  cases pr with
  | tc =>
    rw [Defs.onTc_tc]
    refine Eq.trans ?_ (congrFun (congrFun (Defs.onTc_tc _).symm l) x)
    obtain ⟨_ | _ | _ | _ | n, hl⟩ := l
    · obtain ⟨t, s⟩ := x; rfl
    · obtain ⟨t, s⟩ := x; rfl
    · obtain ⟨t, s⟩ := x; rfl
    · obtain ⟨t, s⟩ := x; rfl
    · exact absurd hl (by omega)
  | _ => rfl
/-- So the whole tables are, -/
theorem d_eq : Cert.Kernel.defs (F := F) = (Cert.KernelIdeal.defs (F := F) : Defs Cert.KernelIdeal.nD Cert.KernelIdeal.τ Cert.KernelIdeal.sig (Elt F) (Pipeline.Sig Cert.KernelIdeal.Λ₀ (Fin 4) fun p => (Cert.KernelIdeal.pcfgs (F := F) p).Adm)) := congrArg (Pipeline.defs Cert.Kernel.pcfgs) d0_eq
/-- and the entry functions. -/
theorem m_eq : Cert.Kernel.main (F := F) = Cert.KernelIdeal.main (F := F) := rfl
end Cert.Proof
end
-- ==== Proof.Frames.lean ====
/-
  What the run leaves untouched: the arguments. No call writes to them and no reshape names them as its result.
-/
module

public import proofs.«01_k».proof.Proof.Run
public import proofs.«01_k».proof.Proof.SameProgram
public import proofs.«01_k».proof.Proof.Gen.ReferenceIdeal.Run

@[expose] public section

set_option maxRecDepth 16384

noncomputable section

namespace Cert.Proof.Frames

open Cert.KernelIdeal Cert.KernelIdeal.Gen Cert.Proof.Run
open Idealize.ShloMosaic Idealize.ShloMosaic.TcCoe Idealize.SL.Sem

variable {F : FTy → Type} [FloatOps F] (m : (ℓ : Loc nD τ sig) → Buf (Elt F) ℓ)

/-- A buffer outside the reshapes' results stays over each of the three stretches; -/
theorem host1_keeps (c : Dev nD) (r : Ref sig .tc) (h : r ∉ hostOps1_W) : W2 m c (Proc.devRef .tc r) = W1 m c (Proc.devRef .tc r) :=
  StableHlo.after_of_writes_sub hostOps1 _ hostOps1_writes h
/-- the second, -/
theorem host2_keeps (c : Dev nD) (r : Ref sig .tc) (h : r ∉ hostOps2_W) : W4 m c (Proc.devRef .tc r) = W3 m c (Proc.devRef .tc r) :=
  StableHlo.after_of_writes_sub hostOps2 _ hostOps2_writes h
/-- the third. -/
theorem host3_keeps (c : Dev nD) (r : Ref sig .tc) (h : r ∉ hostOps3_W) : W6 m c (Proc.devRef .tc r) = W5 m c (Proc.devRef .tc r) :=
  StableHlo.after_of_writes_sub hostOps3 _ hostOps3_writes h
/-- A buffer that is no output array of the degree call stays over it; -/
theorem call0_keeps (c : Dev nD) (r : Ref sig .tc) (h : ∀ w : Fin 4, Pipeline.arrRef spec0 w = r → (win0 w).isOut = false) :
    W1 m c (Proc.devRef .tc r) = W0 m c (Proc.devRef .tc r) :=
  Pipeline.afterRegion_keeps (DegCast.dat (W0 m) c) (W0 m c) winFacts0.arr_inj (DegCast.A_eq (W0 m) c) r h
/-- likewise over the first layer, -/
theorem call1_keeps (c : Dev nD) (r : Ref sig .tc) (h : ∀ w : Fin 7, Pipeline.arrRef spec1 w = r → (win1 w).isOut = false) :
    W3 m c (Proc.devRef .tc r) = W2 m c (Proc.devRef .tc r) :=
  Pipeline.afterRegion_keeps (Layer1.dat (W2 m) c) (W2 m c) winFacts1.arr_inj (Layer1.A_eq (W2 m) c) r h
/-- the second layer -/
theorem call2_keeps (c : Dev nD) (r : Ref sig .tc) (h : ∀ w : Fin 7, Pipeline.arrRef spec2 w = r → (win2 w).isOut = false) :
    W5 m c (Proc.devRef .tc r) = W4 m c (Proc.devRef .tc r) :=
  Pipeline.afterRegion_keeps (Layer2.dat (W4 m) c) (W4 m c) winFacts2.arr_inj (Layer2.A_eq (W4 m) c) r h
/-- and the third. -/
theorem call3_keeps (c : Dev nD) (r : Ref sig .tc) (h : ∀ w : Fin 7, Pipeline.arrRef spec3 w = r → (win3 w).isOut = false) :
    W7 m c (Proc.devRef .tc r) = W6 m c (Proc.devRef .tc r) :=
  Pipeline.afterRegion_keeps (Layer3.dat (W6 m) c) (W6 m c) winFacts3.arr_inj (Layer3.A_eq (W6 m) c) r h

/-- The arguments. -/
abbrev args : List (Ref sig .tc) := [main_arg0, main_arg1, main_arg2, main_arg3, main_arg4, main_arg5, main_arg6, main_arg7]

/-- No argument is an output array of a call or a reshape's result. -/
theorem args_free : ∀ r ∈ args, r ∉ hostOps1_W ∧ r ∉ hostOps2_W ∧ r ∉ hostOps3_W
    ∧ (∀ w : Fin 4, Pipeline.arrRef spec0 w = r → (win0 w).isOut = false)
    ∧ (∀ w : Fin 7, Pipeline.arrRef spec1 w = r → (win1 w).isOut = false)
    ∧ (∀ w : Fin 7, Pipeline.arrRef spec2 w = r → (win2 w).isOut = false)
    ∧ (∀ w : Fin 7, Pipeline.arrRef spec3 w = r → (win3 w).isOut = false) := by decide

/-- An argument at each of the valuations is what it was at launch. -/
theorem arg_kept (c : Dev nD) (r : Ref sig .tc) (hr : r ∈ args) :
    W2 m c (Proc.devRef .tc r) = m (c, Proc.devRef .tc r) ∧ W4 m c (Proc.devRef .tc r) = m (c, Proc.devRef .tc r)
    ∧ W6 m c (Proc.devRef .tc r) = m (c, Proc.devRef .tc r) ∧ W7 m c (Proc.devRef .tc r) = m (c, Proc.devRef .tc r) := by
  obtain ⟨h1, h2, h3, c0, c1, c2, c3⟩ := args_free r hr
  have e2 : W2 m c (Proc.devRef .tc r) = m (c, Proc.devRef .tc r) := (host1_keeps m c r h1).trans (call0_keeps m c r c0)
  have e4 := (host2_keeps m c r h2).trans ((call1_keeps m c r c1).trans e2)
  have e6 := (host3_keeps m c r h3).trans ((call2_keeps m c r c2).trans e4)
  exact ⟨e2, e4, e6, (call3_keeps m c r c3).trans e6⟩

/-- The result's buffer is unscoped; -/
theorem v7_unscoped : ¬ (Proc.devRef (τ := τ) .tc main_v7).isScoped = true := by decide
/-- so are the arguments'. -/
theorem args_unscoped : ∀ r ∈ args, ¬ (Proc.devRef (τ := τ) .tc r).isScoped = true := by decide

/-- The run ends with the result at the last valuation, the arguments unchanged and every counter at zero. -/
theorem run_result (ρ : Dev nD → PrngReg) :
    θ_run defs (onTc (τ := τ) (main (F := F))) ⟨m, fun _ => 0, ρ⟩ (fun r =>
      (∀ c : Dev nD, r.2.mem ((c.tc : Thread nD τ).loc main_v7) = W7 m c (Proc.devRef .tc main_v7)
        ∧ ∀ a ∈ args, r.2.mem ((c.tc : Thread nD τ).loc a) = m ((c.tc : Thread nD τ).loc a)) ∧ r.2.sem = fun _ => 0) :=
  (θ_run defs _ _).mono (fun r h => ⟨fun c => ⟨h.1 c _ (Finset.mem_filter.mpr ⟨StableHlo.devRef_mem_tcRefs main_v7, v7_unscoped⟩),
    fun a ha => (h.1 c _ (Finset.mem_filter.mpr ⟨StableHlo.devRef_mem_tcRefs a, args_unscoped a ha⟩)).trans (arg_kept m c a ha).2.2.2⟩, h.2⟩)
    (run m ρ)

/-- The frame: the arguments unchanged and every counter at zero. -/
theorem frame (ρ : Dev nD → PrngReg) :
    θ_run defs (onTc (τ := τ) (main (F := F))) ⟨m, fun _ => 0, ρ⟩ (fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7))
      ∧ r.2.sem = fun _ => 0) :=
  (θ_run defs _ _).mono (fun r h => ⟨fun c => ⟨(h.1 c).2 _ (by decide), (h.1 c).2 _ (by decide), (h.1 c).2 _ (by decide),
    (h.1 c).2 _ (by decide), (h.1 c).2 _ (by decide), (h.1 c).2 _ (by decide), (h.1 c).2 _ (by decide), (h.1 c).2 _ (by decide)⟩, h.2⟩)
    (run_result m ρ)

/-- The idealized kernel's frame claim. -/
theorem quiescent_kernelIdeal : Cert.quiescent_KernelIdeal := fun m ρ _ => frame m ρ

/-- The kernel's frame claim: it is the same program. -/
theorem quiescent_kernel : Cert.quiescent_Kernel := by
  intro m ρ _
  rw [d_eq, m_eq]
  exact frame (F := Bits) m ρ

/-- The reference's frame claim. -/
theorem quiescent_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof.Frames

end
-- ==== Proof.Spec.lean ====
/-
  The mathematics of the three layers, written over plain coordinates in the extended reals: the degrees of the
  incidence matrix, one hypergraph convolution with its rectifier, and the same convolution as the kernel reaches it,
  block of hyperedges by block of hyperedges over the matrix widened with zero columns.
-/
module

public import Idealize.ShloMosaic.PureOps.Ideal.Laws
public import Idealize.ShloMosaic.Lib.Pipeline.ValueKit.Acc

@[expose] public section

noncomputable section

namespace Cert.Proof.Spec

open Idealize.ShloMosaic
open scoped BigOperators

/-- The floor the degrees are kept above. -/
def floor : EReal := Ideal.ofBits .f32 0x2B8CBCCC#32
/-- The numerator of the degrees' inverses. -/
def one : EReal := Ideal.ofBits .f32 0x3F800000#32

/-- The inverse root of a vertex degree `s`. -/
def invRoot (s : EReal) : EReal := Ideal.div one (Ideal.sqrt (max s floor))
/-- The inverse of a hyperedge degree `s`. -/
def inv (s : EReal) : EReal := Ideal.div one (max s floor)

section

variable {N E D D' : ℕ}

/-- The vertices' inverse root degrees. -/
def dv (H : Fin N → Fin E → EReal) (n : Fin N) : EReal := invRoot (∑ e, H n e)
/-- The hyperedges' inverse degrees. -/
def de (H : Fin N → Fin E → EReal) (e : Fin E) : EReal := inv (∑ n, H n e)

/-- Gather the scaled features `h` to the hyperedges, weigh them by `w`, and scatter them back to the vertices. -/
def spread (H : Fin N → Fin E → EReal) (v : Fin N → EReal) (w : Fin E → EReal) (h : Fin N → Fin D → EReal)
    (n : Fin N) (k : Fin D) : EReal :=
  ∑ e, H n e * ((∑ n', (h n' k * v n') * H n' e) * w e)

/-- The dense end of a layer: scale the vertices, apply the weights and the bias, and rectify. -/
def dense (v : Fin N → EReal) (a : Fin N → Fin D → EReal) (W : Fin D → Fin D' → EReal) (b : Fin D' → EReal)
    (n : Fin N) (j : Fin D') : EReal :=
  max ((∑ k, (a n k * v n) * W k j) + b j) 0

/-- One layer of the network. -/
def layer (H : Fin N → Fin E → EReal) (h : Fin N → Fin D → EReal) (W : Fin D → Fin D' → EReal) (b : Fin D' → EReal) :
    Fin N → Fin D' → EReal :=
  dense (dv H) (spread H (dv H) (de H) h) W b

/-- The whole network: three layers, the second one added to its own input. -/
def network {D'' : ℕ} (H : Fin N → Fin E → EReal) (x : Fin N → Fin D → EReal) (W0 : Fin D → Fin D → EReal) (b0 : Fin D → EReal)
    (W1 : Fin D → Fin D → EReal) (b1 : Fin D → EReal) (W2 : Fin D → Fin D'' → EReal) (b2 : Fin D'' → EReal) :
    Fin N → Fin D'' → EReal :=
  layer H (fun n j => layer H (layer H x W0 b0) W1 b1 n j + layer H x W0 b0 n j) W2 b2

/-- The matrix widened to `E'` columns by zero columns. -/
def widen (E' : ℕ) (H : Fin N → Fin E → EReal) (n : Fin N) (e : Fin E') : EReal :=
  if h : e.val < E then H n ⟨e.val, h⟩ else 0

/-- A sum over the columns of the widened matrix whose terms vanish where the matrix does is the sum over the matrix's own. -/
theorem sum_widened {E' : ℕ} (hE : E ≤ E') (f : Fin E' → EReal) (g : Fin E → EReal)
    (hin : ∀ (e : Fin E') (h : e.val < E), f e = g ⟨e.val, h⟩) (hout : ∀ e : Fin E', ¬e.val < E → f e = 0) :
    ∑ e, f e = ∑ e, g e := by
  obtain ⟨K, rfl⟩ := Nat.exists_eq_add_of_le hE
  rw [Fin.sum_univ_add]
  rw [Finset.sum_congr rfl fun (i : Fin E) _ => hin (Fin.castAdd K i) i.isLt,
    Finset.sum_eq_zero (s := (Finset.univ : Finset (Fin K))) fun i _ => hout (Fin.natAdd E i) (by simp), add_zero]
  exact Finset.sum_congr rfl fun i _ => rfl

/-- Spreading over the widened matrix, whatever the weights of its zero columns, is spreading over the matrix. -/
theorem spread_widen {E' : ℕ} (hE : E ≤ E') (H : Fin N → Fin E → EReal) (v : Fin N → EReal) (w : Fin E → EReal) (w' : Fin E' → EReal)
    (hw : ∀ (e : Fin E') (h : e.val < E), w' e = w ⟨e.val, h⟩) (h : Fin N → Fin D → EReal) (n : Fin N) (k : Fin D) :
    spread (widen E' H) v w' h n k = spread H v w h n k := by
  unfold spread
  refine sum_widened hE _ _ (fun e he => ?_) fun e he => ?_
  · rw [hw e he]; simp only [widen, dif_pos he]
  · simp only [widen, dif_neg he, zero_mul]

/-- The vertex degrees of the widened matrix are the matrix's. -/
theorem degree_widen {E' : ℕ} (hE : E ≤ E') (H : Fin N → Fin E → EReal) (n : Fin N) :
    ∑ e, widen E' H n e = ∑ e, H n e :=
  sum_widened hE _ _ (fun e he => by simp only [widen, dif_pos he]) fun e he => by simp only [widen, dif_neg he]

/-- The hyperedge degrees of the widened matrix are, at the matrix's own columns, the matrix's. -/
theorem de_widen {E' : ℕ} (H : Fin N → Fin E → EReal) (e : Fin E') (h : e.val < E) :
    de (widen E' H) e = de H ⟨e.val, h⟩ := by
  unfold de; simp only [widen, dif_pos h]

end

end Cert.Proof.Spec
-- ==== Proof.DegValue.lean ====
/-
  The arrays the degree call leaves, in the extended reals: the incidence matrix widened by zero columns, the vertices'
  inverse root degrees and the hyperedges' inverse degrees.
-/
module

public import proofs.«01_k».proof.Proof.DegCast
public import proofs.«01_k».proof.Proof.Spec
public import Idealize.ShloMosaic.Lib.ValueIdx
public import Idealize.ShloMosaic.Lib.ValueLayout
public import Idealize.ShloMosaic.Lib.Pipeline.Value

@[expose] public section

set_option maxRecDepth 16384

noncomputable section

namespace Cert.Proof.DegValue

open Cert.KernelIdeal Cert.KernelIdeal.Gen
open Idealize.ShloMosaic Idealize.ShloMosaic.TcCoe Idealize.ShloMosaic.ValueIdx
open Cert.Proof.DegCast
open Idealize.ShloMosaic.Pipeline (Window)
open scoped BigOperators

/-! ## The stored values at an index -/

/-- A column's inverse degree. -/
theorem pay3_apply (i : grid0.Coords) (X : Vec Ideal S10000x256 .f32) (e : Fin 256) :
    k0_pay3 (F := Ideal) i X (ix3 0 0 e) = Spec.inv (∑ n : Fin 10000, k0_pay1 i X (ix2 n e)) := by
  unfold k0_pay3
  dsimp only
  refine (shapeCast_apply (s := S256) _ _ _ (ix1 e) (by rw [Shape.rowMajor_val_one, Shape.rowMajor_val_three]; show e.val = (0 * 1 + 0) * 256 + e.val; omega)).trans ?_
  rw [divf_apply, maximumf_apply, broadcast_apply, broadcast_apply]
  refine congrArg (fun s => Spec.inv s) ?_
  refine (Ideal.multiReduction_add_single _ _ _ _ _ _).trans ?_
  exact Finset.sum_congr rfl fun n _ => congrArg (k0_pay1 i X) (eq_ix2 _)

/-- A row's part of the vertex degree. -/
theorem pay4_apply (i : grid0.Coords) (X : Vec Ideal S10000x256 .f32) (n : Fin 10000) :
    k0_pay4 (F := Ideal) i X (ix2 n 0) = ∑ e : Fin 256, k0_pay1 i X (ix2 n e) := by
  unfold k0_pay4
  dsimp only
  refine (shapeCast_apply (s := S10000) _ _ _ (ix1 n) (by rw [Shape.rowMajor_val_one, Shape.rowMajor_val_two]; show n.val = n.val * 1 + 0; omega)).trans ?_
  refine (Ideal.multiReduction_add_single _ _ _ _ _ _).trans ?_
  exact Finset.sum_congr rfl fun e _ => congrArg (k0_pay1 i X) (eq_ix2 _)

/-- The degrees gain it. -/
theorem pay5_apply (i : grid0.Coords) (X : Vec Ideal S10000x256 .f32) (v : Vec Ideal S10000x1 .f32) (n : Fin 10000) :
    k0_pay5 (F := Ideal) i X v (ix2 n 0) = v (ix2 n 0) + ∑ e : Fin 256, k0_pay1 i X (ix2 n e) := by
  unfold k0_pay5
  rw [shapeCast_self, addf_apply, pay4_apply]

/-- The degrees' inverse roots. -/
theorem pay6_apply (v : Vec Ideal S10000x1 .f32) (n : Fin 10000) :
    k0_pay6 (F := Ideal) v (ix2 n 0) = Spec.invRoot (v (ix2 n 0)) := by
  unfold k0_pay6
  rw [shapeCast_self]
  rfl

/-! ## The blocks -/

variable (V : Dev nD → Valuation τ sig (Elt Ideal)) (c : Dev nD)

/-- The incidence matrix the call reads, by its coordinates. -/
def H (n : Fin 10000) (e : Fin 5000) : EReal := (V c (Proc.devRef .tc main_arg1) : Vec Ideal S10000x5000 .f32) (ix2 n e)

/-- Where each window's block lies. -/
theorem index_at : ∀ t : Fin cfg0.N, (grid0.coords t 0).val = t.val
    ∧ (win0_0.index t 0 = 0 ∧ win0_0.index t 1 = t.val) ∧ (win0_1.index t 0 = 0 ∧ win0_1.index t 1 = t.val)
    ∧ (∀ a, win0_2.index t a = 0) ∧ (win0_3.index t 0 = t.val ∧ win0_3.index t 1 = 0 ∧ win0_3.index t 2 = 0) := by decide +kernel

/-- Where a fetched element lies in the incidence matrix. -/
theorem fetched_at (t : Fin cfg0.N) (n : Fin 10000) (e : Fin 5000) (y : (win0_0.xblock (grid0.coords t)).Idx)
    (h0 : (y 0).val = n.val) (h1 : t.val * 256 + (y 1).val = e.val) : (win0_0.rect t).emb y = ix2 n e := by
  obtain ⟨-, ⟨i0, i1⟩, -⟩ := index_at t
  refine funext fun a => Fin.ext ?_
  match a with
  | ⟨0, _⟩ => exact ((Window.rect_emb_val win0_0 t y 0).trans (by rw [i0, Nat.zero_mul, Nat.zero_add])).trans h0
  | ⟨1, _⟩ => exact ((Window.rect_emb_val win0_0 t y 1).trans (by rw [i1]; rfl)).trans h1

/-- The masked block is a block of the widened matrix. -/
theorem masked_block (t : Fin cfg0.N) (n : Fin 10000) (e : Fin 256) (h : t.val * 256 + e.val < 5120) :
    k0_pay1 (F := Ideal) (grid0.coords t) (xblk V c t) (ix2 n e) = Spec.widen 5120 (H V c) n ⟨t.val * 256 + e.val, h⟩ := by
  obtain ⟨hc, ⟨i0, i1⟩, -⟩ := index_at t
  rw [masked_apply]
  unfold Spec.widen
  by_cases hlt : t.val * 256 + e.val < 5000
  · have hlt' : 256 * (grid0.coords t 0).val + ((ix2 n e : S10000x256.Idx) 1).val < 5000 := by
      rw [hc]; show 256 * t.val + e.val < 5000; omega
    rw [if_pos hlt', dif_pos hlt]
    unfold xblk Window.fill
    rw [dif_pos (moved_of_lt _ _ hlt')]
    unfold xcut H
    rw [View.read_apply]
    exact congrArg (V c (Proc.devRef .tc main_arg1)) (fetched_at t n ⟨t.val * 256 + e.val, hlt⟩ _ rfl rfl)
  · have hlt' : ¬256 * (grid0.coords t 0).val + ((ix2 n e : S10000x256.Idx) 1).val < 5000 := by
      rw [hc]; show ¬256 * t.val + e.val < 5000; omega
    rw [if_neg hlt', dif_neg hlt]
    exact Ideal.ofBits_zero_f32

/-- A block's last column is within the widened matrix. -/
theorem col_lt (t : Fin cfg0.N) (e : Fin 256) : t.val * 256 + e.val < 5120 := by
  have ht : t.val < 20 := lt_of_lt_of_eq t.isLt N_0
  have := e.isLt
  omega

/-- The degrees after block `T` are the sums over the blocks so far. -/
theorem dacc_apply (n : Fin 10000) (T : ℕ) : dacc V c T (ix2 n 0)
    = ∑ t ∈ Finset.range (T + 1), ∑ e : Fin 256, k0_pay1 (F := Ideal) (grid0.coords (pt t)) (xblk V c (pt t)) (ix2 n e) := by
  induction T with
  | zero =>
    rw [Finset.sum_range_one]
    exact pay4_apply _ _ n
  | succ T ih =>
    rw [Finset.sum_range_succ, ← ih]
    exact pay5_apply _ _ _ n

/-- The last block stores the vertices' inverse root degrees. -/
theorem dout_apply (n : Fin 10000) : dout V c 19 (ix2 n 0) = Spec.dv (H V c) n := by
  have hpt : ∀ t : Fin 20, (pt t.val).val = t.val := fun t => Nat.mod_eq_of_lt t.isLt
  unfold dout
  rw [if_pos rfl, pay6_apply, dacc_apply]
  refine congrArg (fun s => Spec.invRoot s) ?_
  rw [← Fin.sum_univ_eq_sum_range (fun t => ∑ e : Fin 256, k0_pay1 (F := Ideal) (grid0.coords (pt t)) (xblk V c (pt t)) (ix2 n e)) 20,
    ← Spec.degree_widen (E' := 5120) (by decide) (H V c) n, ← Fin.sum_mul_add_fin 20 256 (L := 5120)]
  refine Finset.sum_congr rfl fun t _ => Finset.sum_congr rfl fun e _ => ?_
  refine (masked_block V c (pt t.val) n e (col_lt _ e)).trans ?_
  simp only [hpt]

/-! ## The arrays -/

/-- The widened incidence matrix as an array. -/
def wide : Vec Ideal S10000x5120 .bf16 := fun i => Spec.widen 5120 (H V c) (i 0) (i 1)
/-- The inverse root degrees as an array. -/
def roots : Vec Ideal S10000x1 .f32 := fun i => Spec.dv (H V c) (i 0)
/-- The place of a block's column in the widened matrix. -/
def place (i : S20x1x256.Idx) : Fin 5120 :=
  ⟨(i 0).val * 256 + (i 2).val, by
    have h0 : (i 0).val < 20 := (i 0).isLt
    have h2 : (i 2).val < 256 := (i 2).isLt
    omega⟩
/-- The inverse degrees as an array, block by block. -/
def inverses : Vec Ideal S20x1x256 .f32 := fun i => Spec.de (Spec.widen 5120 (H V c)) (place i)

/-- The extents of the blocks written back. -/
theorem extents : ∀ t : Fin cfg0.N, (win0_1.xsize (grid0.coords t) 0 = 10000 ∧ win0_1.xsize (grid0.coords t) 1 = 256)
    ∧ (win0_2.xsize (grid0.coords t) 0 = 10000 ∧ win0_2.xsize (grid0.coords t) 1 = 1)
    ∧ (win0_3.xsize (grid0.coords t) 0 = 1 ∧ win0_3.xsize (grid0.coords t) 1 = 1 ∧ win0_3.xsize (grid0.coords t) 2 = 256) := by decide +kernel

/-- The matrix's array after the call. -/
theorem arr_wide : (dat V c).arrAt 1 cfg0.N = wide V c := by
  refine (dat V c).arrAt_eq_of_cover 1 (wide V c) (fun t _ => ?_) fun i => ?_
  · show (cfg0.win 1).cut (grid0.coords t) ((dat V c).after 1 t) = _
    rw [after_1]
    funext y
    rw [View.read_apply]
    obtain ⟨-, -, ⟨i0, i1⟩, -⟩ := index_at t
    have hy0 : (y 0).val < 10000 := lt_of_lt_of_eq (y 0).isLt (extents t).1.1
    have hy1 : (y 1).val < 256 := lt_of_lt_of_eq (y 1).isLt (extents t).1.2
    show k0_pay2 (F := Ideal) (grid0.coords t) (xblk V c t) (win0_1.xinj (grid0.coords t) y) = _
    rw [eq_ix2 (win0_1.xinj (grid0.coords t) y)]
    refine (masked_block V c t ⟨(y 0).val, hy0⟩ ⟨(y 1).val, hy1⟩ (col_lt _ _)).trans ?_
    show _ = Spec.widen 5120 (H V c) (((win0_1.rect t).emb y) 0) (((win0_1.rect t).emb y) 1)
    refine congr (congrArg (Spec.widen 5120 (H V c)) (Fin.ext ?_)) (Fin.ext ?_)
    · refine Eq.trans ?_ (Window.rect_emb_val win0_1 t y 0).symm
      rw [i0, Nat.zero_mul, Nat.zero_add]
    · refine Eq.trans ?_ (Window.rect_emb_val win0_1 t y 1).symm
      rw [i1]; rfl
  · have h0 : (i 0 : Nat) < 10000 := (i 0).isLt
    have h1 : (i 1 : Nat) < 5120 := (i 1).isLt
    have hp : (pt ((i 1 : Nat) / 256)).val = (i 1 : Nat) / 256 := Nat.mod_eq_of_lt (by omega)
    generalize pt ((i 1 : Nat) / 256) = t at hp
    refine ⟨t, flush0_1 t, ?_⟩
    obtain ⟨-, -, ⟨i0, i1⟩, -⟩ := index_at t
    obtain ⟨⟨x0, x1⟩, -⟩ := extents t
    show i ∈ ((View.whole main_v0_0).slice (win0_1.rect t)).set
    rw [View.set_slice_whole, Rect.mem_set_unit]
    intro a
    match a with
    | ⟨0, _⟩ =>
      show win0_1.index t 0 * 10000 ≤ (i 0 : Nat) ∧ (i 0 : Nat) < win0_1.index t 0 * 10000 + win0_1.xsize (grid0.coords t) 0
      rw [i0, x0]; omega
    | ⟨1, _⟩ =>
      show win0_1.index t 1 * 256 ≤ (i 1 : Nat) ∧ (i 1 : Nat) < win0_1.index t 1 * 256 + win0_1.xsize (grid0.coords t) 1
      rw [i1, x1, hp]; omega

/-- The vertices' array after the call. -/
theorem arr_roots : (dat V c).arrAt 2 cfg0.N = roots V c := by
  refine (dat V c).arrAt_eq_of_cover 2 (roots V c) (fun t hf => ?_) fun i => ⟨pt 19, (flush0_2 (pt 19)).mpr rfl, ?_⟩
  · have ht : t.val = 19 := by
      have := (flush0_2 t).mp hf
      have h20 : t.val < 20 := lt_of_lt_of_eq t.isLt N_0
      omega
    show (cfg0.win 2).cut (grid0.coords t) ((dat V c).after 2 t) = _
    rw [after_2, ht]
    funext y
    rw [View.read_apply]
    have hy0 : (y 0).val < 10000 := lt_of_lt_of_eq (y 0).isLt (extents t).2.1.1
    have hy1 : (y 1).val < 1 := lt_of_lt_of_eq (y 1).isLt (extents t).2.1.2
    show dout V c 19 (win0_2.xinj (grid0.coords t) y) = _
    have e : win0_2.xinj (grid0.coords t) y = ix2 ⟨(y 0).val, hy0⟩ 0 := funext fun a => Fin.ext (by
      match a with
      | ⟨0, _⟩ => rfl
      | ⟨1, _⟩ => exact Nat.lt_one_iff.mp hy1)
    rw [e]
    refine (dout_apply V c ⟨(y 0).val, hy0⟩).trans ?_
    show _ = Spec.dv (H V c) (((win0_2.rect t).emb y) 0)
    refine congrArg (Spec.dv (H V c)) (Fin.ext ?_)
    exact (Window.rect_emb_val_of_index_zero win0_2 t 0 ((index_at t).2.2.2.1 0) y).symm
  · have h0 : (i 0 : Nat) < 10000 := (i 0).isLt
    have h1 : (i 1 : Nat) < 1 := (i 1).isLt
    generalize pt 19 = t
    obtain ⟨-, ⟨x0, x1⟩, -⟩ := extents t
    have hz := (index_at t).2.2.2.1
    show i ∈ ((View.whole main_v0_1).slice (win0_2.rect t)).set
    rw [View.set_slice_whole, Rect.mem_set_unit]
    intro a
    match a with
    | ⟨0, _⟩ =>
      show win0_2.index t 0 * 10000 ≤ (i 0 : Nat) ∧ (i 0 : Nat) < win0_2.index t 0 * 10000 + win0_2.xsize (grid0.coords t) 0
      rw [hz 0, x0]; omega
    | ⟨1, _⟩ =>
      show win0_2.index t 1 * 1 ≤ (i 1 : Nat) ∧ (i 1 : Nat) < win0_2.index t 1 * 1 + win0_2.xsize (grid0.coords t) 1
      rw [hz 1, x1]; omega

/-- The hyperedges' array after the call. -/
theorem arr_inverses : (dat V c).arrAt 3 cfg0.N = inverses V c := by
  refine (dat V c).arrAt_eq_of_cover 3 (inverses V c) (fun t _ => ?_) fun i => ?_
  · show (cfg0.win 3).cut (grid0.coords t) ((dat V c).after 3 t) = _
    rw [after_3]
    funext y
    rw [View.read_apply]
    obtain ⟨-, -, -, -, i0, i1, i2⟩ := index_at t
    have hy0 : (y 0).val < 1 := lt_of_lt_of_eq (y 0).isLt (extents t).2.2.1
    have hy1 : (y 1).val < 1 := lt_of_lt_of_eq (y 1).isLt (extents t).2.2.2.1
    have hy2 : (y 2).val < 256 := lt_of_lt_of_eq (y 2).isLt (extents t).2.2.2.2
    show k0_pay3 (F := Ideal) (grid0.coords t) (xblk V c t) (win0_3.xinj (grid0.coords t) y) = _
    have e : win0_3.xinj (grid0.coords t) y = ix3 0 0 ⟨(y 2).val, hy2⟩ := funext fun a => Fin.ext (by
      match a with
      | ⟨0, _⟩ => exact Nat.lt_one_iff.mp hy0
      | ⟨1, _⟩ => exact Nat.lt_one_iff.mp hy1
      | ⟨2, _⟩ => rfl)
    rw [e]
    refine (pay3_apply (grid0.coords t) (xblk V c t) ⟨(y 2).val, hy2⟩).trans ?_
    show Spec.inv _ = Spec.inv (∑ n, Spec.widen 5120 (H V c) n (place ((win0_3.rect t).emb y)))
    refine congrArg (fun s => Spec.inv s) (Finset.sum_congr rfl fun n _ => ?_)
    refine (masked_block V c t n ⟨(y 2).val, hy2⟩ (col_lt _ _)).trans ?_
    refine congrArg (Spec.widen 5120 (H V c) n) (Fin.ext ?_)
    show t.val * 256 + (y 2).val = ((win0_3.rect t).emb y 0 : Nat) * 256 + ((win0_3.rect t).emb y 2 : Nat)
    rw [Window.rect_emb_val win0_3 t y 0, Window.rect_emb_val win0_3 t y 2, i0, i2, Nat.lt_one_iff.mp hy0, Nat.zero_mul, Nat.zero_add, Nat.add_zero]
    show _ = t.val * 1 * 256 + _
    rw [Nat.mul_one]
  · have h0 : (i 0 : Nat) < 20 := (i 0).isLt
    have h1 : (i 1 : Nat) < 1 := (i 1).isLt
    have h2 : (i 2 : Nat) < 256 := (i 2).isLt
    have hp : (pt (i 0 : Nat)).val = (i 0 : Nat) := Nat.mod_eq_of_lt h0
    generalize pt (i 0 : Nat) = t at hp
    refine ⟨t, flush0_3 t, ?_⟩
    obtain ⟨-, -, -, -, i0, i1, i2⟩ := index_at t
    obtain ⟨-, -, x0, x1, x2⟩ := extents t
    show i ∈ ((View.whole main_v0_2).slice (win0_3.rect t)).set
    rw [View.set_slice_whole, Rect.mem_set_unit]
    intro a
    match a with
    | ⟨0, _⟩ =>
      show win0_3.index t 0 * 1 ≤ (i 0 : Nat) ∧ (i 0 : Nat) < win0_3.index t 0 * 1 + win0_3.xsize (grid0.coords t) 0
      rw [i0, x0, hp]; omega
    | ⟨1, _⟩ =>
      show win0_3.index t 1 * 1 ≤ (i 1 : Nat) ∧ (i 1 : Nat) < win0_3.index t 1 * 1 + win0_3.xsize (grid0.coords t) 1
      rw [i1, x1]; omega
    | ⟨2, _⟩ =>
      show win0_3.index t 2 * 256 ≤ (i 2 : Nat) ∧ (i 2 : Nat) < win0_3.index t 2 * 256 + win0_3.xsize (grid0.coords t) 2
      rw [i2, x2]; omega

end Cert.Proof.DegValue

end
-- ==== Proof.LayerMath.lean ====
/-
  The stored values of the layer calls read at an index, in the extended reals.
-/
module

public import proofs.«01_k».proof.Proof.Gen.KernelIdeal.Skeleton
public import proofs.«01_k».proof.Proof.Spec
public import Idealize.ShloMosaic.Lib.MatmulPlain
public import Idealize.ShloMosaic.Lib.ValueIdx
public import Idealize.ShloMosaic.Lib.ValueLayout
public import Idealize.ShloMosaic.Lib.Pipeline.Value

@[expose] public section

set_option maxRecDepth 16384

noncomputable section

namespace Cert.Proof.LayerMath

open Cert.KernelIdeal Cert.KernelIdeal.Gen
open Idealize.ShloMosaic Idealize.ShloMosaic.ValueIdx
open scoped BigOperators

/-- A column spread over 128 columns reads the column. -/
theorem column_apply (v : Vec Ideal S10000x1 .f32) (n : Fin 10000) (k : Fin 128) :
    broadcastTo S10000x128 v broadcasts_S10000x1_S10000x128 (ix2 n k) = v (ix2 n 0) :=
  broadcastTo_apply (s := S10000x1) _ _ _ _ fun a => match a with | ⟨0, _⟩ => rfl | ⟨1, _⟩ => rfl

/-- The prepared input: the features scaled by the column, transposed. -/
theorem pay1_apply (x : Vec Ideal S10000x128 .f32) (v : Vec Ideal S10000x1 .f32) (k : Fin 128) (n : Fin 10000) :
    k1_pay1 (F := Ideal) x v (ix2 k n) = x (ix2 n k) * v (ix2 n 0) := by
  unfold k1_pay1
  dsimp only
  rw [shapeCast_self]
  refine (transpose_ix2_apply _ _ k n).trans ?_
  rw [truncf_apply, mulf_apply, shapeCast_self, column_apply]

/-- The cleared accumulator. -/
theorem pay2_apply (n : Fin 10000) (k : Fin 128) : k1_pay2 (F := Ideal) (ix2 n k) = (0 : EReal) := by
  unfold k1_pay2
  rw [shapeCast_self]
  exact Ideal.ofBits_zero_f32

/-- The weights of a block spread over 128 rows read the block's weights. -/
theorem weights_apply (w : Vec Ideal S1x1x640 .f32) (k : Fin 128) (e : Fin 640) :
    broadcastTo S128x640 (shapeCast S1x640 w shapeCasts_S1x1x640_S1x640) broadcasts_S1x640_S128x640 (ix2 k e)
      = w (ix3 0 0 e) := by
  refine (broadcastTo_apply (s := S1x640) _ _ _ (ix2 0 e) fun a => match a with | ⟨0, _⟩ => rfl | ⟨1, _⟩ => rfl).trans ?_
  refine shapeCast_apply (s := S1x1x640) _ _ _ (ix3 0 0 e) ?_
  rw [Shape.rowMajor_val_three, Shape.rowMajor_val_two]; rfl

/-- The accumulator gains the block's contribution. -/
theorem pay3_apply (hb : Vec Ideal S10000x640 .bf16) (s : Vec Ideal S128x10000 .bf16) (w : Vec Ideal S1x1x640 .f32)
    (a : Vec Ideal S10000x128 .f32) (n : Fin 10000) (k : Fin 128) :
    k1_pay3 (F := Ideal) hb s w a (ix2 n k)
      = a (ix2 n k) + ∑ e : Fin 640, hb (ix2 n e) * ((∑ n' : Fin 10000, s (ix2 k n') * hb (ix2 n' e)) * w (ix3 0 0 e)) := by
  unfold k1_pay3
  dsimp only
  rw [shapeCast_self, shapeCast_self, addf_apply]
  refine congrArg (a (ix2 n k) + ·) ?_
  refine (Ideal.matmul_plain_apply (M := 10000) (K := 640) (N := 128) none _ _ _ n k).trans ?_
  rw [constant_apply, Ideal.ofBits_zero_f32, zero_add]
  refine Finset.sum_congr rfl fun e _ => congrArg (hb (ix2 n e) * ·) ?_
  refine (transpose_ix2_apply _ _ e k).trans ?_
  rw [truncf_apply, mulf_apply, weights_apply]
  refine congrArg (· * w (ix3 0 0 e)) ?_
  refine (Ideal.matmul_plain_apply (M := 128) (K := 10000) (N := 640) none _ _ _ k e).trans ?_
  rw [constant_apply, Ideal.ofBits_zero_f32, zero_add]

/-- The layer's output from its accumulator. -/
theorem pay4_apply (a : Vec Ideal S10000x128 .f32) (v : Vec Ideal S10000x1 .f32) (W : Vec Ideal S128x128 .f32) (b : Vec Ideal S1x128 .f32)
    (n : Fin 10000) (j : Fin 128) :
    k1_pay4 (F := Ideal) a v W b (ix2 n j)
      = Spec.dense (fun n => v (ix2 n 0)) (fun n k => a (ix2 n k)) (fun k j => W (ix2 k j)) (fun j => b (ix2 0 j)) n j := by
  unfold k1_pay4 Spec.dense
  dsimp only
  rw [shapeCast_self, shapeCast_self, maximumf_apply, addf_apply, broadcast_apply]
  refine congr (congrArg max (congr (congrArg HAdd.hAdd ?_) ?_)) Ideal.ofBits_zero_f32
  · refine (Ideal.matmul_plain_apply (M := 10000) (K := 128) (N := 128) none _ _ _ n j).trans ?_
    rw [constant_apply, Ideal.ofBits_zero_f32, zero_add]
    exact Finset.sum_congr rfl fun k _ => by rw [mulf_apply, column_apply]
  · exact broadcastTo_apply (s := S1x128) _ _ _ (ix2 0 j) fun a => match a with | ⟨0, _⟩ => rfl | ⟨1, _⟩ => rfl

/-- The second layer's output, its input added. -/
theorem pay4_residual_apply (a : Vec Ideal S10000x128 .f32) (v : Vec Ideal S10000x1 .f32) (W : Vec Ideal S128x128 .f32)
    (b : Vec Ideal S1x128 .f32) (x : Vec Ideal S10000x128 .f32) (n : Fin 10000) (j : Fin 128) :
    k2_pay4 (F := Ideal) a v W b x (ix2 n j) = k1_pay4 (F := Ideal) a v W b (ix2 n j) + x (ix2 n j) := by
  unfold k2_pay4
  rw [addf_apply]
  refine congr (congrArg HAdd.hAdd rfl) ?_
  rw [shapeCast_self]

/-- The third layer's output, 64 columns wide, from its accumulator. -/
theorem pay4_narrow_apply (a : Vec Ideal S10000x128 .f32) (v : Vec Ideal S10000x1 .f32) (W : Vec Ideal S128x64 .f32) (b : Vec Ideal S1x64 .f32)
    (n : Fin 10000) (j : Fin 64) :
    k3_pay4 (F := Ideal) a v W b (ix2 n j)
      = Spec.dense (fun n => v (ix2 n 0)) (fun n k => a (ix2 n k)) (fun k j => W (ix2 k j)) (fun j => b (ix2 0 j)) n j := by
  unfold k3_pay4 Spec.dense
  dsimp only
  rw [shapeCast_self, shapeCast_self, maximumf_apply, addf_apply, broadcast_apply]
  refine congr (congrArg max (congr (congrArg HAdd.hAdd ?_) ?_)) Ideal.ofBits_zero_f32
  · refine (Ideal.matmul_plain_apply (M := 10000) (K := 128) (N := 64) none _ _ _ n j).trans ?_
    rw [constant_apply, Ideal.ofBits_zero_f32, zero_add]
    exact Finset.sum_congr rfl fun k _ => by rw [mulf_apply, column_apply]
  · exact broadcastTo_apply (s := S1x64) _ _ _ (ix2 0 j) fun a => match a with | ⟨0, _⟩ => rfl | ⟨1, _⟩ => rfl

/-- The second layer stores the same prepared input as the first, -/
theorem pay1_two (x : Vec Ideal S10000x128 .f32) (v : Vec Ideal S10000x1 .f32) : k2_pay1 (F := Ideal) x v = k1_pay1 x v := by
  unfold k2_pay1 k1_pay1
  dsimp only
  rw [shapeCast_self x]
/-- the same cleared accumulator -/
theorem pay2_two : k2_pay2 (F := Ideal) = k1_pay2 := rfl
/-- and the same sums; -/
theorem pay3_two : k2_pay3 (F := Ideal) = k1_pay3 := rfl
/-- so does the third. -/
theorem pay1_three (x : Vec Ideal S10000x128 .f32) (v : Vec Ideal S10000x1 .f32) : k3_pay1 (F := Ideal) x v = k1_pay1 x v := by
  unfold k3_pay1 k1_pay1
  dsimp only
  rw [shapeCast_self x]
theorem pay2_three : k3_pay2 (F := Ideal) = k1_pay2 := rfl
theorem pay3_three : k3_pay3 (F := Ideal) = k1_pay3 := rfl

/-- An accumulator that starts clear and gains at each of 8 steps the contribution of the step's block of 640 hyperedges
    ends at the whole matrix's. -/
theorem acc_apply (A : ℕ → Vec Ideal S10000x128 .f32) (hb : Vec Ideal S10000x5120 .bf16) (w : Vec Ideal S8x1x640 .f32)
    (x : Vec Ideal S10000x128 .f32) (v : Vec Ideal S10000x1 .f32)
    (B : ℕ → Vec Ideal S10000x640 .bf16) (C : ℕ → Vec Ideal S1x1x640 .f32)
    (hB : ∀ (t : Fin 8) n (e : Fin 640), B t.val (ix2 n e) = hb (ix2 n ⟨t.val * 640 + e.val, by have := t.isLt; have := e.isLt; omega⟩))
    (hC : ∀ (t : Fin 8) (e : Fin 640), C t.val (ix3 0 0 e) = w (ix3 t 0 e))
    (h0 : A 0 = k1_pay2 (F := Ideal)) (hs : ∀ t, A (t + 1) = k1_pay3 (F := Ideal) (B t) (k1_pay1 x v) (C t) (A t)) (n : Fin 10000) (k : Fin 128) :
    A 8 (ix2 n k) = Spec.spread (fun n (e : Fin 5120) => hb (ix2 n e)) (fun n => v (ix2 n 0))
      (fun e => w (ix3 ⟨e.val / 640, by have := e.isLt; omega⟩ 0 ⟨e.val % 640, Nat.mod_lt _ (by decide)⟩))
      (fun n k => x (ix2 n k)) n k := by
  have hsum : ∀ T : ℕ, A T (ix2 n k) = ∑ t ∈ Finset.range T, ∑ e : Fin 640, B t (ix2 n e)
      * ((∑ n' : Fin 10000, (x (ix2 n' k) * v (ix2 n' 0)) * B t (ix2 n' e)) * C t (ix3 0 0 e)) := by
    intro T
    induction T with
    | zero => rw [h0, pay2_apply, Finset.range_zero, Finset.sum_empty]
    | succ T ih =>
      rw [hs, pay3_apply, ih, Finset.sum_range_succ]
      simp only [pay1_apply]
  rw [hsum 8, ← Fin.sum_univ_eq_sum_range (fun t => ∑ e : Fin 640, B t (ix2 n e)
      * ((∑ n' : Fin 10000, (x (ix2 n' k) * v (ix2 n' 0)) * B t (ix2 n' e)) * C t (ix3 0 0 e))) 8]
  unfold Spec.spread
  rw [← Fin.sum_mul_add_fin 8 640 (L := 5120)]
  refine Finset.sum_congr rfl fun t _ => Finset.sum_congr rfl fun e _ => ?_
  simp only [hB, hC]
  refine congrArg (_ * ·) (congrArg (_ * ·) (congrArg w ?_))
  have ht := t.isLt
  have he := e.isLt
  funext a
  apply Fin.ext
  match a with
  | ⟨0, _⟩ => show t.val = (t.val * 640 + e.val) / 640; omega
  | ⟨1, _⟩ => rfl
  | ⟨2, _⟩ => show e.val = (t.val * 640 + e.val) % 640; omega

end Cert.Proof.LayerMath
-- ==== Proof.LayerValue1.lean ====
/-
  The array the first layer's call leaves, in the extended reals: one layer's mathematics over the arrays it reads.
-/
module

public import proofs.«01_k».proof.Proof.Layer1
public import proofs.«01_k».proof.Proof.LayerMath

@[expose] public section

set_option maxRecDepth 16384

noncomputable section

namespace Cert.Proof.LayerValue1

open Cert.KernelIdeal Cert.KernelIdeal.Gen
open Idealize.ShloMosaic Idealize.ShloMosaic.TcCoe Idealize.ShloMosaic.ValueIdx
open Cert.Proof.Layer1
open scoped BigOperators

variable (V : Dev nD → Valuation τ sig (Elt Ideal)) (c : Dev nD)

/-- Each whole-array window stays at the array's start, -/
theorem index_zero : ∀ t : Fin cfg1.N, (∀ a, win1_0.index t a = 0) ∧ (∀ a, win1_3.index t a = 0) ∧ (∀ a, win1_4.index t a = 0)
    ∧ (∀ a, win1_5.index t a = 0) ∧ (∀ a, win1_6.index t a = 0) := by decide +kernel
/-- and the two moving windows go one block of hyperedges at a time. -/
theorem index_move : ∀ t : Fin cfg1.N, win1_1.index t 0 = 0 ∧ win1_1.index t 1 = t.val
    ∧ win1_2.index t 0 = t.val ∧ win1_2.index t 1 = 0 ∧ win1_2.index t 2 = 0 := by decide +kernel

/-- The features are read whole, -/
theorem iblk_0 (t : Fin cfg1.N) : iblk V c 0 t = V c (Proc.devRef .tc main_arg0) := by
  funext y
  unfold iblk
  rw [View.read_apply]
  refine congrArg (V c (Proc.devRef .tc main_arg0)) (funext fun a => Fin.ext ?_)
  exact Pipeline.Window.rect_emb_val_of_index_zero win1_0 t a ((index_zero t).1 a) y
/-- as are the inverse root degrees, -/
theorem iblk_3 (t : Fin cfg1.N) : iblk V c 3 t = V c (Proc.devRef .tc main_v0_1) := by
  funext y
  unfold iblk
  rw [View.read_apply]
  refine congrArg (V c (Proc.devRef .tc main_v0_1)) (funext fun a => Fin.ext ?_)
  exact Pipeline.Window.rect_emb_val_of_index_zero win1_3 t a ((index_zero t).2.1 a) y
/-- the weights -/
theorem iblk_4 (t : Fin cfg1.N) : iblk V c 4 t = V c (Proc.devRef .tc main_arg2) := by
  funext y
  unfold iblk
  rw [View.read_apply]
  refine congrArg (V c (Proc.devRef .tc main_arg2)) (funext fun a => Fin.ext ?_)
  exact Pipeline.Window.rect_emb_val_of_index_zero win1_4 t a ((index_zero t).2.2.1 a) y
/-- and the bias. -/
theorem iblk_5 (t : Fin cfg1.N) : iblk V c 5 t = V c (Proc.devRef .tc main_v2) := by
  funext y
  unfold iblk
  rw [View.read_apply]
  refine congrArg (V c (Proc.devRef .tc main_v2)) (funext fun a => Fin.ext ?_)
  exact Pipeline.Window.rect_emb_val_of_index_zero win1_5 t a ((index_zero t).2.2.2.1 a) y
/-- The incidence matrix is read 640 columns at a time, -/
theorem iblk_1 (t : Fin cfg1.N) (n : Fin 10000) (e : Fin 640) (h : t.val * 640 + e.val < 5120) :
    (iblk V c 1 t : Vec Ideal S10000x640 .bf16) (ix2 n e)
      = (V c (Proc.devRef .tc main_v0_0) : Vec Ideal S10000x5120 .bf16) (ix2 n ⟨t.val * 640 + e.val, h⟩) := by
  unfold iblk
  rw [View.read_apply]
  refine congrArg (V c (Proc.devRef .tc main_v0_0)) (funext fun a => Fin.ext ?_)
  refine (Pipeline.Window.rect_emb_val win1_1 t (ix2 n e) a).trans ?_
  match a with
  | ⟨0, _⟩ => show win1_1.index t 0 * _ + _ = _; rw [(index_move t).1, Nat.zero_mul, Nat.zero_add]
  | ⟨1, _⟩ => show win1_1.index t 1 * _ + _ = _; rw [(index_move t).2.1]; rfl
/-- and so are the inverse hyperedge degrees. -/
theorem iblk_2 (t : Fin cfg1.N) (e : Fin 640) (h : t.val < 8) :
    (iblk V c 2 t : Vec Ideal S1x1x640 .f32) (ix3 0 0 e)
      = (V c (Proc.devRef .tc main_v1) : Vec Ideal S8x1x640 .f32) (ix3 ⟨t.val, h⟩ 0 e) := by
  unfold iblk
  rw [View.read_apply]
  refine congrArg (V c (Proc.devRef .tc main_v1)) (funext fun a => Fin.ext ?_)
  refine (Pipeline.Window.rect_emb_val win1_2 t (ix3 0 0 e) a).trans ?_
  match a with
  | ⟨0, _⟩ => show win1_2.index t 0 * 1 + 0 = t.val; rw [(index_move t).2.2.1, Nat.mul_one, Nat.add_zero]
  | ⟨1, _⟩ => show win1_2.index t 1 * _ + 0 = 0; rw [(index_move t).2.2.2.1, Nat.zero_mul]
  | ⟨2, _⟩ => show win1_2.index t 2 * _ + _ = _; rw [(index_move t).2.2.2.2, Nat.zero_mul, Nat.zero_add]

/-- The accumulator ends at the features spread over the whole incidence matrix. -/
theorem acc_eq (n : Fin 10000) (k : Fin 128) :
    acc V c 8 (ix2 n k) = Spec.spread (fun n (e : Fin 5120) => (V c (Proc.devRef .tc main_v0_0) : Vec Ideal S10000x5120 .bf16) (ix2 n e))
      (fun n => (V c (Proc.devRef .tc main_v0_1) : Vec Ideal S10000x1 .f32) (ix2 n 0))
      (fun e => (V c (Proc.devRef .tc main_v1) : Vec Ideal S8x1x640 .f32) (ix3 ⟨e.val / 640, by have := e.isLt; omega⟩ 0 ⟨e.val % 640, Nat.mod_lt _ (by decide)⟩))
      (fun n k => (V c (Proc.devRef .tc main_arg0) : Vec Ideal S10000x128 .f32) (ix2 n k)) n k := by
  have hpt : ∀ t : Fin 8, (pt t.val).val = t.val := fun t => Nat.mod_eq_of_lt t.isLt
  refine LayerMath.acc_apply (acc V c) _ _ _ _ (fun t => iblk V c 1 (pt t)) (fun t => iblk V c 2 (pt t)) ?_ ?_ rfl ?_ n k
  · intro t n e
    refine (iblk_1 V c (pt t.val) n e (by rw [hpt]; have := t.isLt; have := e.isLt; omega)).trans ?_
    simp only [hpt]
  · intro t e
    refine (iblk_2 V c (pt t.val) e (by rw [hpt]; exact t.isLt)).trans ?_
    simp only [hpt]
  · intro t
    show k1_pay3 _ (sT V c) _ _ = _
    unfold sT
    rw [iblk_0, iblk_3]

/-- What the last block stores. -/
theorem out_eq (n : Fin 10000) (j : Fin 128) :
    out V c (ix2 n j) = Spec.dense (fun n => (V c (Proc.devRef .tc main_v0_1) : Vec Ideal S10000x1 .f32) (ix2 n 0)) (fun n k => acc V c 8 (ix2 n k))
      (fun k j => (V c (Proc.devRef .tc main_arg2) : Vec Ideal S128x128 .f32) (ix2 k j))
      (fun j => (V c (Proc.devRef .tc main_v2) : Vec Ideal S1x128 .f32) (ix2 0 j)) n j := by
  unfold out
  rw [LayerMath.pay4_apply, iblk_3, iblk_4, iblk_5]

/-- The block the last point writes back is the whole array. -/
theorem extent : win1_6.xsize (grid1.coords (pt 7)) 0 = 10000 ∧ win1_6.xsize (grid1.coords (pt 7)) 1 = 128 := by decide +kernel

/-- The layer's array after the call is what the last block stores. -/
theorem arr_out : (dat V c).arrAt 6 cfg1.N = out V c := by
  refine (dat V c).arrAt_eq_of_cover 6 (out V c) (fun t _ => ?_) fun i => ⟨pt 7, (flush1_6 (pt 7)).mpr rfl, ?_⟩
  · show (cfg1.win 6).cut (grid1.coords t) ((dat V c).after 6 t) = _
    rw [after_6]
    funext y
    rw [View.read_apply]
    refine congrArg (out V c) (funext fun a => Fin.ext ?_)
    exact (Pipeline.Window.rect_emb_val_of_index_zero win1_6 t a ((index_zero t).2.2.2.2 a) y).symm
  · show i ∈ ((View.whole main_v3).slice (win1_6.rect (pt 7))).set
    rw [View.set_slice_whole, Rect.mem_set_unit]
    intro a
    have h0 : (i 0 : Nat) < 10000 := (i 0).isLt
    have h1 : (i 1 : Nat) < 128 := (i 1).isLt
    obtain ⟨x0, x1⟩ := extent
    match a with
    | ⟨0, _⟩ =>
      show win1_6.index (pt 7) 0 * win1_6.size 0 ≤ (i 0 : Nat) ∧ (i 0 : Nat) < win1_6.index (pt 7) 0 * win1_6.size 0 + win1_6.xsize (grid1.coords (pt 7)) 0
      rw [(index_zero (pt 7)).2.2.2.2 0, Nat.zero_mul, Nat.zero_add, x0]
      exact ⟨Nat.zero_le _, h0⟩
    | ⟨1, _⟩ =>
      show win1_6.index (pt 7) 1 * win1_6.size 1 ≤ (i 1 : Nat) ∧ (i 1 : Nat) < win1_6.index (pt 7) 1 * win1_6.size 1 + win1_6.xsize (grid1.coords (pt 7)) 1
      rw [(index_zero (pt 7)).2.2.2.2 1, Nat.zero_mul, Nat.zero_add, x1]
      exact ⟨Nat.zero_le _, h1⟩

end Cert.Proof.LayerValue1

end
-- ==== Proof.LayerValue2.lean ====
/-
  The array the second layer's call leaves, in the extended reals: one layer's mathematics over the arrays it reads.
-/
module

public import proofs.«01_k».proof.Proof.Layer2
public import proofs.«01_k».proof.Proof.LayerMath

@[expose] public section

set_option maxRecDepth 16384

noncomputable section

namespace Cert.Proof.LayerValue2

open Cert.KernelIdeal Cert.KernelIdeal.Gen
open Idealize.ShloMosaic Idealize.ShloMosaic.TcCoe Idealize.ShloMosaic.ValueIdx
open Cert.Proof.Layer2
open scoped BigOperators

variable (V : Dev nD → Valuation τ sig (Elt Ideal)) (c : Dev nD)

/-- Each whole-array window stays at the array's start, -/
theorem index_zero : ∀ t : Fin cfg2.N, (∀ a, win2_0.index t a = 0) ∧ (∀ a, win2_3.index t a = 0) ∧ (∀ a, win2_4.index t a = 0)
    ∧ (∀ a, win2_5.index t a = 0) ∧ (∀ a, win2_6.index t a = 0) := by decide +kernel
/-- and the two moving windows go one block of hyperedges at a time. -/
theorem index_move : ∀ t : Fin cfg2.N, win2_1.index t 0 = 0 ∧ win2_1.index t 1 = t.val
    ∧ win2_2.index t 0 = t.val ∧ win2_2.index t 1 = 0 ∧ win2_2.index t 2 = 0 := by decide +kernel

/-- The features are read whole, -/
theorem iblk_0 (t : Fin cfg2.N) : iblk V c 0 t = V c (Proc.devRef .tc main_v3) := by
  funext y
  unfold iblk
  rw [View.read_apply]
  refine congrArg (V c (Proc.devRef .tc main_v3)) (funext fun a => Fin.ext ?_)
  exact Pipeline.Window.rect_emb_val_of_index_zero win2_0 t a ((index_zero t).1 a) y
/-- as are the inverse root degrees, -/
theorem iblk_3 (t : Fin cfg2.N) : iblk V c 3 t = V c (Proc.devRef .tc main_v0_1) := by
  funext y
  unfold iblk
  rw [View.read_apply]
  refine congrArg (V c (Proc.devRef .tc main_v0_1)) (funext fun a => Fin.ext ?_)
  exact Pipeline.Window.rect_emb_val_of_index_zero win2_3 t a ((index_zero t).2.1 a) y
/-- the weights -/
theorem iblk_4 (t : Fin cfg2.N) : iblk V c 4 t = V c (Proc.devRef .tc main_arg4) := by
  funext y
  unfold iblk
  rw [View.read_apply]
  refine congrArg (V c (Proc.devRef .tc main_arg4)) (funext fun a => Fin.ext ?_)
  exact Pipeline.Window.rect_emb_val_of_index_zero win2_4 t a ((index_zero t).2.2.1 a) y
/-- and the bias. -/
theorem iblk_5 (t : Fin cfg2.N) : iblk V c 5 t = V c (Proc.devRef .tc main_v4) := by
  funext y
  unfold iblk
  rw [View.read_apply]
  refine congrArg (V c (Proc.devRef .tc main_v4)) (funext fun a => Fin.ext ?_)
  exact Pipeline.Window.rect_emb_val_of_index_zero win2_5 t a ((index_zero t).2.2.2.1 a) y
/-- The incidence matrix is read 640 columns at a time, -/
theorem iblk_1 (t : Fin cfg2.N) (n : Fin 10000) (e : Fin 640) (h : t.val * 640 + e.val < 5120) :
    (iblk V c 1 t : Vec Ideal S10000x640 .bf16) (ix2 n e)
      = (V c (Proc.devRef .tc main_v0_0) : Vec Ideal S10000x5120 .bf16) (ix2 n ⟨t.val * 640 + e.val, h⟩) := by
  unfold iblk
  rw [View.read_apply]
  refine congrArg (V c (Proc.devRef .tc main_v0_0)) (funext fun a => Fin.ext ?_)
  refine (Pipeline.Window.rect_emb_val win2_1 t (ix2 n e) a).trans ?_
  match a with
  | ⟨0, _⟩ => show win2_1.index t 0 * _ + _ = _; rw [(index_move t).1, Nat.zero_mul, Nat.zero_add]
  | ⟨1, _⟩ => show win2_1.index t 1 * _ + _ = _; rw [(index_move t).2.1]; rfl
/-- and so are the inverse hyperedge degrees. -/
theorem iblk_2 (t : Fin cfg2.N) (e : Fin 640) (h : t.val < 8) :
    (iblk V c 2 t : Vec Ideal S1x1x640 .f32) (ix3 0 0 e)
      = (V c (Proc.devRef .tc main_v1) : Vec Ideal S8x1x640 .f32) (ix3 ⟨t.val, h⟩ 0 e) := by
  unfold iblk
  rw [View.read_apply]
  refine congrArg (V c (Proc.devRef .tc main_v1)) (funext fun a => Fin.ext ?_)
  refine (Pipeline.Window.rect_emb_val win2_2 t (ix3 0 0 e) a).trans ?_
  match a with
  | ⟨0, _⟩ => show win2_2.index t 0 * 1 + 0 = t.val; rw [(index_move t).2.2.1, Nat.mul_one, Nat.add_zero]
  | ⟨1, _⟩ => show win2_2.index t 1 * _ + 0 = 0; rw [(index_move t).2.2.2.1, Nat.zero_mul]
  | ⟨2, _⟩ => show win2_2.index t 2 * _ + _ = _; rw [(index_move t).2.2.2.2, Nat.zero_mul, Nat.zero_add]

/-- The accumulator ends at the features spread over the whole incidence matrix. -/
theorem acc_eq (n : Fin 10000) (k : Fin 128) :
    acc V c 8 (ix2 n k) = Spec.spread (fun n (e : Fin 5120) => (V c (Proc.devRef .tc main_v0_0) : Vec Ideal S10000x5120 .bf16) (ix2 n e))
      (fun n => (V c (Proc.devRef .tc main_v0_1) : Vec Ideal S10000x1 .f32) (ix2 n 0))
      (fun e => (V c (Proc.devRef .tc main_v1) : Vec Ideal S8x1x640 .f32) (ix3 ⟨e.val / 640, by have := e.isLt; omega⟩ 0 ⟨e.val % 640, Nat.mod_lt _ (by decide)⟩))
      (fun n k => (V c (Proc.devRef .tc main_v3) : Vec Ideal S10000x128 .f32) (ix2 n k)) n k := by
  have hpt : ∀ t : Fin 8, (pt t.val).val = t.val := fun t => Nat.mod_eq_of_lt t.isLt
  refine LayerMath.acc_apply (acc V c) _ _ _ _ (fun t => iblk V c 1 (pt t)) (fun t => iblk V c 2 (pt t)) ?_ ?_ LayerMath.pay2_two ?_ n k
  · intro t n e
    refine (iblk_1 V c (pt t.val) n e (by rw [hpt]; have := t.isLt; have := e.isLt; omega)).trans ?_
    simp only [hpt]
  · intro t e
    refine (iblk_2 V c (pt t.val) e (by rw [hpt]; exact t.isLt)).trans ?_
    simp only [hpt]
  · intro t
    show k2_pay3 _ (sT V c) _ _ = _
    unfold sT
    rw [LayerMath.pay3_two, LayerMath.pay1_two, iblk_0, iblk_3]

/-- What the last block stores, the layer's input added. -/
theorem out_eq (n : Fin 10000) (j : Fin 128) :
    out V c (ix2 n j) = Spec.dense (fun n => (V c (Proc.devRef .tc main_v0_1) : Vec Ideal S10000x1 .f32) (ix2 n 0)) (fun n k => acc V c 8 (ix2 n k))
      (fun k j => (V c (Proc.devRef .tc main_arg4) : Vec Ideal S128x128 .f32) (ix2 k j))
      (fun j => (V c (Proc.devRef .tc main_v4) : Vec Ideal S1x128 .f32) (ix2 0 j)) n j
      + (V c (Proc.devRef .tc main_v3) : Vec Ideal S10000x128 .f32) (ix2 n j) := by
  unfold out
  rw [LayerMath.pay4_residual_apply, LayerMath.pay4_apply, iblk_0, iblk_3, iblk_4, iblk_5]

/-- The block the last point writes back is the whole array. -/
theorem extent : win2_6.xsize (grid2.coords (pt 7)) 0 = 10000 ∧ win2_6.xsize (grid2.coords (pt 7)) 1 = 128 := by decide +kernel

/-- The layer's array after the call is what the last block stores. -/
theorem arr_out : (dat V c).arrAt 6 cfg2.N = out V c := by
  refine (dat V c).arrAt_eq_of_cover 6 (out V c) (fun t _ => ?_) fun i => ⟨pt 7, (flush2_6 (pt 7)).mpr rfl, ?_⟩
  · show (cfg2.win 6).cut (grid2.coords t) ((dat V c).after 6 t) = _
    rw [after_6]
    funext y
    rw [View.read_apply]
    refine congrArg (out V c) (funext fun a => Fin.ext ?_)
    exact (Pipeline.Window.rect_emb_val_of_index_zero win2_6 t a ((index_zero t).2.2.2.2 a) y).symm
  · show i ∈ ((View.whole main_v5).slice (win2_6.rect (pt 7))).set
    rw [View.set_slice_whole, Rect.mem_set_unit]
    intro a
    have h0 : (i 0 : Nat) < 10000 := (i 0).isLt
    have h1 : (i 1 : Nat) < 128 := (i 1).isLt
    obtain ⟨x0, x1⟩ := extent
    match a with
    | ⟨0, _⟩ =>
      show win2_6.index (pt 7) 0 * win2_6.size 0 ≤ (i 0 : Nat) ∧ (i 0 : Nat) < win2_6.index (pt 7) 0 * win2_6.size 0 + win2_6.xsize (grid2.coords (pt 7)) 0
      rw [(index_zero (pt 7)).2.2.2.2 0, Nat.zero_mul, Nat.zero_add, x0]
      exact ⟨Nat.zero_le _, h0⟩
    | ⟨1, _⟩ =>
      show win2_6.index (pt 7) 1 * win2_6.size 1 ≤ (i 1 : Nat) ∧ (i 1 : Nat) < win2_6.index (pt 7) 1 * win2_6.size 1 + win2_6.xsize (grid2.coords (pt 7)) 1
      rw [(index_zero (pt 7)).2.2.2.2 1, Nat.zero_mul, Nat.zero_add, x1]
      exact ⟨Nat.zero_le _, h1⟩

end Cert.Proof.LayerValue2

end
-- ==== Proof.LayerValue3.lean ====
/-
  The array the third layer's call leaves, in the extended reals: one layer's mathematics over the arrays it reads.
-/
module

public import proofs.«01_k».proof.Proof.Layer3
public import proofs.«01_k».proof.Proof.LayerMath

@[expose] public section

set_option maxRecDepth 16384

noncomputable section

namespace Cert.Proof.LayerValue3

open Cert.KernelIdeal Cert.KernelIdeal.Gen
open Idealize.ShloMosaic Idealize.ShloMosaic.TcCoe Idealize.ShloMosaic.ValueIdx
open Cert.Proof.Layer3
open scoped BigOperators

variable (V : Dev nD → Valuation τ sig (Elt Ideal)) (c : Dev nD)

/-- Each whole-array window stays at the array's start, -/
theorem index_zero : ∀ t : Fin cfg3.N, (∀ a, win3_0.index t a = 0) ∧ (∀ a, win3_3.index t a = 0) ∧ (∀ a, win3_4.index t a = 0)
    ∧ (∀ a, win3_5.index t a = 0) ∧ (∀ a, win3_6.index t a = 0) := by decide +kernel
/-- and the two moving windows go one block of hyperedges at a time. -/
theorem index_move : ∀ t : Fin cfg3.N, win3_1.index t 0 = 0 ∧ win3_1.index t 1 = t.val
    ∧ win3_2.index t 0 = t.val ∧ win3_2.index t 1 = 0 ∧ win3_2.index t 2 = 0 := by decide +kernel

/-- The features are read whole, -/
theorem iblk_0 (t : Fin cfg3.N) : iblk V c 0 t = V c (Proc.devRef .tc main_v5) := by
  funext y
  unfold iblk
  rw [View.read_apply]
  refine congrArg (V c (Proc.devRef .tc main_v5)) (funext fun a => Fin.ext ?_)
  exact Pipeline.Window.rect_emb_val_of_index_zero win3_0 t a ((index_zero t).1 a) y
/-- as are the inverse root degrees, -/
theorem iblk_3 (t : Fin cfg3.N) : iblk V c 3 t = V c (Proc.devRef .tc main_v0_1) := by
  funext y
  unfold iblk
  rw [View.read_apply]
  refine congrArg (V c (Proc.devRef .tc main_v0_1)) (funext fun a => Fin.ext ?_)
  exact Pipeline.Window.rect_emb_val_of_index_zero win3_3 t a ((index_zero t).2.1 a) y
/-- the weights -/
theorem iblk_4 (t : Fin cfg3.N) : iblk V c 4 t = V c (Proc.devRef .tc main_arg6) := by
  funext y
  unfold iblk
  rw [View.read_apply]
  refine congrArg (V c (Proc.devRef .tc main_arg6)) (funext fun a => Fin.ext ?_)
  exact Pipeline.Window.rect_emb_val_of_index_zero win3_4 t a ((index_zero t).2.2.1 a) y
/-- and the bias. -/
theorem iblk_5 (t : Fin cfg3.N) : iblk V c 5 t = V c (Proc.devRef .tc main_v6) := by
  funext y
  unfold iblk
  rw [View.read_apply]
  refine congrArg (V c (Proc.devRef .tc main_v6)) (funext fun a => Fin.ext ?_)
  exact Pipeline.Window.rect_emb_val_of_index_zero win3_5 t a ((index_zero t).2.2.2.1 a) y
/-- The incidence matrix is read 640 columns at a time, -/
theorem iblk_1 (t : Fin cfg3.N) (n : Fin 10000) (e : Fin 640) (h : t.val * 640 + e.val < 5120) :
    (iblk V c 1 t : Vec Ideal S10000x640 .bf16) (ix2 n e)
      = (V c (Proc.devRef .tc main_v0_0) : Vec Ideal S10000x5120 .bf16) (ix2 n ⟨t.val * 640 + e.val, h⟩) := by
  unfold iblk
  rw [View.read_apply]
  refine congrArg (V c (Proc.devRef .tc main_v0_0)) (funext fun a => Fin.ext ?_)
  refine (Pipeline.Window.rect_emb_val win3_1 t (ix2 n e) a).trans ?_
  match a with
  | ⟨0, _⟩ => show win3_1.index t 0 * _ + _ = _; rw [(index_move t).1, Nat.zero_mul, Nat.zero_add]
  | ⟨1, _⟩ => show win3_1.index t 1 * _ + _ = _; rw [(index_move t).2.1]; rfl
/-- and so are the inverse hyperedge degrees. -/
theorem iblk_2 (t : Fin cfg3.N) (e : Fin 640) (h : t.val < 8) :
    (iblk V c 2 t : Vec Ideal S1x1x640 .f32) (ix3 0 0 e)
      = (V c (Proc.devRef .tc main_v1) : Vec Ideal S8x1x640 .f32) (ix3 ⟨t.val, h⟩ 0 e) := by
  unfold iblk
  rw [View.read_apply]
  refine congrArg (V c (Proc.devRef .tc main_v1)) (funext fun a => Fin.ext ?_)
  refine (Pipeline.Window.rect_emb_val win3_2 t (ix3 0 0 e) a).trans ?_
  match a with
  | ⟨0, _⟩ => show win3_2.index t 0 * 1 + 0 = t.val; rw [(index_move t).2.2.1, Nat.mul_one, Nat.add_zero]
  | ⟨1, _⟩ => show win3_2.index t 1 * _ + 0 = 0; rw [(index_move t).2.2.2.1, Nat.zero_mul]
  | ⟨2, _⟩ => show win3_2.index t 2 * _ + _ = _; rw [(index_move t).2.2.2.2, Nat.zero_mul, Nat.zero_add]

/-- The accumulator ends at the features spread over the whole incidence matrix. -/
theorem acc_eq (n : Fin 10000) (k : Fin 128) :
    acc V c 8 (ix2 n k) = Spec.spread (fun n (e : Fin 5120) => (V c (Proc.devRef .tc main_v0_0) : Vec Ideal S10000x5120 .bf16) (ix2 n e))
      (fun n => (V c (Proc.devRef .tc main_v0_1) : Vec Ideal S10000x1 .f32) (ix2 n 0))
      (fun e => (V c (Proc.devRef .tc main_v1) : Vec Ideal S8x1x640 .f32) (ix3 ⟨e.val / 640, by have := e.isLt; omega⟩ 0 ⟨e.val % 640, Nat.mod_lt _ (by decide)⟩))
      (fun n k => (V c (Proc.devRef .tc main_v5) : Vec Ideal S10000x128 .f32) (ix2 n k)) n k := by
  have hpt : ∀ t : Fin 8, (pt t.val).val = t.val := fun t => Nat.mod_eq_of_lt t.isLt
  refine LayerMath.acc_apply (acc V c) _ _ _ _ (fun t => iblk V c 1 (pt t)) (fun t => iblk V c 2 (pt t)) ?_ ?_ LayerMath.pay2_three ?_ n k
  · intro t n e
    refine (iblk_1 V c (pt t.val) n e (by rw [hpt]; have := t.isLt; have := e.isLt; omega)).trans ?_
    simp only [hpt]
  · intro t e
    refine (iblk_2 V c (pt t.val) e (by rw [hpt]; exact t.isLt)).trans ?_
    simp only [hpt]
  · intro t
    show k3_pay3 _ (sT V c) _ _ = _
    unfold sT
    rw [LayerMath.pay3_three, LayerMath.pay1_three, iblk_0, iblk_3]

/-- What the last block stores. -/
theorem out_eq (n : Fin 10000) (j : Fin 64) :
    out V c (ix2 n j) = Spec.dense (fun n => (V c (Proc.devRef .tc main_v0_1) : Vec Ideal S10000x1 .f32) (ix2 n 0)) (fun n k => acc V c 8 (ix2 n k))
      (fun k j => (V c (Proc.devRef .tc main_arg6) : Vec Ideal S128x64 .f32) (ix2 k j))
      (fun j => (V c (Proc.devRef .tc main_v6) : Vec Ideal S1x64 .f32) (ix2 0 j)) n j := by
  unfold out
  rw [LayerMath.pay4_narrow_apply, iblk_3, iblk_4, iblk_5]

/-- The block the last point writes back is the whole array. -/
theorem extent : win3_6.xsize (grid3.coords (pt 7)) 0 = 10000 ∧ win3_6.xsize (grid3.coords (pt 7)) 1 = 64 := by decide +kernel

/-- The layer's array after the call is what the last block stores. -/
theorem arr_out : (dat V c).arrAt 6 cfg3.N = out V c := by
  refine (dat V c).arrAt_eq_of_cover 6 (out V c) (fun t _ => ?_) fun i => ⟨pt 7, (flush3_6 (pt 7)).mpr rfl, ?_⟩
  · show (cfg3.win 6).cut (grid3.coords t) ((dat V c).after 6 t) = _
    rw [after_6]
    funext y
    rw [View.read_apply]
    refine congrArg (out V c) (funext fun a => Fin.ext ?_)
    exact (Pipeline.Window.rect_emb_val_of_index_zero win3_6 t a ((index_zero t).2.2.2.2 a) y).symm
  · show i ∈ ((View.whole main_v7).slice (win3_6.rect (pt 7))).set
    rw [View.set_slice_whole, Rect.mem_set_unit]
    intro a
    have h0 : (i 0 : Nat) < 10000 := (i 0).isLt
    have h1 : (i 1 : Nat) < 64 := (i 1).isLt
    obtain ⟨x0, x1⟩ := extent
    match a with
    | ⟨0, _⟩ =>
      show win3_6.index (pt 7) 0 * win3_6.size 0 ≤ (i 0 : Nat) ∧ (i 0 : Nat) < win3_6.index (pt 7) 0 * win3_6.size 0 + win3_6.xsize (grid3.coords (pt 7)) 0
      rw [(index_zero (pt 7)).2.2.2.2 0, Nat.zero_mul, Nat.zero_add, x0]
      exact ⟨Nat.zero_le _, h0⟩
    | ⟨1, _⟩ =>
      show win3_6.index (pt 7) 1 * win3_6.size 1 ≤ (i 1 : Nat) ∧ (i 1 : Nat) < win3_6.index (pt 7) 1 * win3_6.size 1 + win3_6.xsize (grid3.coords (pt 7)) 1
      rw [(index_zero (pt 7)).2.2.2.2 1, Nat.zero_mul, Nat.zero_add, x1]
      exact ⟨Nat.zero_le _, h1⟩

end Cert.Proof.LayerValue3

end
-- ==== Proof.KernelValue.lean ====
/-
  The kernel's result in the extended reals: the network over plain coordinates, from the arrays the four calls leave.
-/
module

public import proofs.«01_k».proof.Proof.Frames
public import proofs.«01_k».proof.Proof.DegValue
public import proofs.«01_k».proof.Proof.LayerValue1
public import proofs.«01_k».proof.Proof.LayerValue2
public import proofs.«01_k».proof.Proof.LayerValue3
public import Idealize.ShloMosaic.Lib.StableHlo

@[expose] public section

set_option maxRecDepth 16384

noncomputable section

namespace Cert.Proof.KernelValue

open Cert.KernelIdeal Cert.KernelIdeal.Gen Cert.Proof.Run Cert.Proof.Frames
open Idealize.ShloMosaic Idealize.ShloMosaic.TcCoe Idealize.ShloMosaic.ValueIdx
open scoped BigOperators

/-- A layer reached over the widened matrix is the layer over the matrix. -/
theorem layer_of {N E E' D D' : ℕ} (hE : E ≤ E') (H : Fin N → Fin E → EReal) {hb : Fin N → Fin E' → EReal} {v : Fin N → EReal}
    {w : Fin E' → EReal} {h h' a : Fin N → Fin D → EReal} {W W' : Fin D → Fin D' → EReal} {b b' : Fin D' → EReal}
    (ha : ∀ n k, a n k = Spec.spread hb v w h n k) (hhb : ∀ n e, hb n e = Spec.widen E' H n e) (hv : ∀ n, v n = Spec.dv H n)
    (hw : ∀ e, w e = Spec.de (Spec.widen E' H) e) (hh : ∀ n k, h n k = h' n k) (hW : ∀ k j, W k j = W' k j)
    (hbb : ∀ j, b j = b' j) (n : Fin N) (j : Fin D') :
    Spec.dense v a W b n j = Spec.layer H h' W' b' n j := by
  obtain rfl : hb = Spec.widen E' H := funext fun n => funext fun e => hhb n e
  obtain rfl : v = Spec.dv H := funext hv
  obtain rfl : h = h' := funext fun n => funext fun k => hh n k
  obtain rfl : W = W' := funext fun k => funext fun j => hW k j
  obtain rfl : b = b' := funext hbb
  obtain rfl : a = Spec.spread H (Spec.dv H) (Spec.de H) h := funext fun n => funext fun k =>
    (ha n k).trans (Spec.spread_widen hE H _ _ w (fun e he => (hw e).trans (Spec.de_widen H e he)) h n k)
  rfl

variable (m : (ℓ : Loc nD τ sig) → Buf (Elt Ideal) ℓ) (c : Dev nD)

/-! ## The arguments by their coordinates -/

/-- The incidence matrix. -/
abbrev H (n : Fin 10000) (e : Fin 5000) : EReal := (m (c, Proc.devRef .tc main_arg1) : Vec Ideal S10000x5000 .f32) (ix2 n e)
/-- The features. -/
abbrev x (n : Fin 10000) (k : Fin 128) : EReal := (m (c, Proc.devRef .tc main_arg0) : Vec Ideal S10000x128 .f32) (ix2 n k)
/-- The first layer's weights -/
abbrev w0 (k j : Fin 128) : EReal := (m (c, Proc.devRef .tc main_arg2) : Vec Ideal S128x128 .f32) (ix2 k j)
/-- and bias; -/
abbrev b0 (j : Fin 128) : EReal := (m (c, Proc.devRef .tc main_arg3) : Vec Ideal S128 .f32) (ix1 j)
/-- the second layer's weights -/
abbrev w1 (k j : Fin 128) : EReal := (m (c, Proc.devRef .tc main_arg4) : Vec Ideal S128x128 .f32) (ix2 k j)
/-- and bias; -/
abbrev b1 (j : Fin 128) : EReal := (m (c, Proc.devRef .tc main_arg5) : Vec Ideal S128 .f32) (ix1 j)
/-- the third layer's weights -/
abbrev w2 (k : Fin 128) (j : Fin 64) : EReal := (m (c, Proc.devRef .tc main_arg6) : Vec Ideal S128x64 .f32) (ix2 k j)
/-- and bias. -/
abbrev b2 (j : Fin 64) : EReal := (m (c, Proc.devRef .tc main_arg7) : Vec Ideal S64 .f32) (ix1 j)

/-! ## The degree call's arrays as the layers read them -/

/-- No later call or reshape before the last layer writes the matrix's and the vertices' arrays. -/
theorem degrees_free : ∀ r ∈ [main_v0_0, main_v0_1], r ∉ hostOps1_W ∧ r ∉ hostOps2_W ∧ r ∉ hostOps3_W
    ∧ (∀ w : Fin 7, Pipeline.arrRef spec1 w = r → (win1 w).isOut = false)
    ∧ (∀ w : Fin 7, Pipeline.arrRef spec2 w = r → (win2 w).isOut = false) := by decide

/-- So each layer reads them as the degree call left them. -/
theorem degrees_kept (r : Ref sig .tc) (hr : r ∈ [main_v0_0, main_v0_1]) :
    W2 m c (Proc.devRef .tc r) = W1 m c (Proc.devRef .tc r) ∧ W4 m c (Proc.devRef .tc r) = W1 m c (Proc.devRef .tc r)
    ∧ W6 m c (Proc.devRef .tc r) = W1 m c (Proc.devRef .tc r) := by
  obtain ⟨h1, h2, h3, c1, c2⟩ := degrees_free r hr
  have e2 := host1_keeps m c r h1
  have e4 := (host2_keeps m c r h2).trans ((call1_keeps m c r c1).trans e2)
  exact ⟨e2, e4, (host3_keeps m c r h3).trans ((call2_keeps m c r c2).trans e4)⟩

/-- The matrix's array is the widened matrix, -/
theorem wide_left : W1 m c (Proc.devRef .tc main_v0_0) = DegValue.wide (W0 m) c :=
  (Pipeline.afterRegion_arr (DegCast.dat (W0 m) c) (W0 m c) winFacts0.arr_inj 1).trans (DegValue.arr_wide (W0 m) c)
/-- the vertices' the inverse root degrees -/
theorem roots_left : W1 m c (Proc.devRef .tc main_v0_1) = DegValue.roots (W0 m) c :=
  (Pipeline.afterRegion_arr (DegCast.dat (W0 m) c) (W0 m c) winFacts0.arr_inj 2).trans (DegValue.arr_roots (W0 m) c)
/-- and the hyperedges' the inverse degrees. -/
theorem inverses_left : W1 m c (Proc.devRef .tc main_v0_2) = DegValue.inverses (W0 m) c :=
  (Pipeline.afterRegion_arr (DegCast.dat (W0 m) c) (W0 m c) winFacts0.arr_inj 3).trans (DegValue.arr_inverses (W0 m) c)

/-! ## The reshaped arrays -/

/-- The hyperedges' array in the layers' blocks, -/
theorem v1_left : W2 m c (Proc.devRef .tc main_v1)
    = shapeCast S8x1x640 (DegValue.inverses (W0 m) c) shapeCasts_S20x1x256_S8x1x640 := by
  rw [← inverses_left]
  show StableHlo.after hostOps1 (W1 m c) (Proc.devRef .tc main_v1) = _
  after_results
  rfl
/-- the first bias as a row, -/
theorem v2_left : W2 m c (Proc.devRef .tc main_v2)
    = shapeCast S1x128 (W1 m c (Proc.devRef .tc main_arg3) : Vec Ideal S128 .f32) shapeCasts_S128_S1x128 := by
  show StableHlo.after hostOps1 (W1 m c) (Proc.devRef .tc main_v2) = _
  after_results
  rfl
/-- the second -/
theorem v4_left : W4 m c (Proc.devRef .tc main_v4)
    = shapeCast S1x128 (W3 m c (Proc.devRef .tc main_arg5) : Vec Ideal S128 .f32) shapeCasts_S128_S1x128 := by
  show StableHlo.after hostOps2 (W3 m c) (Proc.devRef .tc main_v4) = _
  after_results
  rfl
/-- and the third. -/
theorem v6_left : W6 m c (Proc.devRef .tc main_v6)
    = shapeCast S1x64 (W5 m c (Proc.devRef .tc main_arg7) : Vec Ideal S64 .f32) shapeCasts_S64_S1x64 := by
  show StableHlo.after hostOps3 (W5 m c) (Proc.devRef .tc main_v6) = _
  after_results
  rfl

/-- A vector as a row, by its coordinate. -/
theorem row_apply {a : ℕ} (v : Vec Ideal ⟨1, ![a]⟩ .f32) (h : (⟨1, ![a]⟩ : Shape).ShapeCasts ⟨2, ![1, a]⟩) (j : Fin a) :
    shapeCast ⟨2, ![1, a]⟩ v h (ix2 0 j) = v (ix1 j) :=
  shapeCast_apply (s := ⟨1, ![a]⟩) _ _ _ (ix1 j) (by
    rw [Shape.rowMajor_val_one, Shape.rowMajor_val_two]; show j.val = 0 * a + j.val; omega)

/-- The bias a layer reads is the argument's. -/
theorem bias0 (j : Fin 128) : (W2 m c (Proc.devRef .tc main_v2) : Vec Ideal S1x128 .f32) (ix2 0 j) = b0 m c j := by
  rw [v2_left, row_apply]
  exact congrFun ((host1_keeps m c main_arg3 (by decide)).symm.trans (arg_kept m c main_arg3 (by decide)).1) (ix1 j)
/-- Likewise the second layer's -/
theorem bias1 (j : Fin 128) : (W4 m c (Proc.devRef .tc main_v4) : Vec Ideal S1x128 .f32) (ix2 0 j) = b1 m c j := by
  rw [v4_left, row_apply]
  exact congrFun ((host2_keeps m c main_arg5 (by decide)).symm.trans (arg_kept m c main_arg5 (by decide)).2.1) (ix1 j)
/-- and the third's. -/
theorem bias2 (j : Fin 64) : (W6 m c (Proc.devRef .tc main_v6) : Vec Ideal S1x64 .f32) (ix2 0 j) = b2 m c j := by
  rw [v6_left, row_apply]
  exact congrFun ((host3_keeps m c main_arg7 (by decide)).symm.trans (arg_kept m c main_arg7 (by decide)).2.2.1) (ix1 j)

/-- The weight of a hyperedge, read from its block. -/
theorem weight (e : Fin 5120) :
    (W2 m c (Proc.devRef .tc main_v1) : Vec Ideal S8x1x640 .f32)
        (ix3 ⟨e.val / 640, by have := e.isLt; omega⟩ 0 ⟨e.val % 640, Nat.mod_lt _ (by decide)⟩)
      = Spec.de (Spec.widen 5120 (H m c)) e := by
  have he := e.isLt
  rw [v1_left]
  refine (shapeCast_apply (s := S20x1x256) _ _ _
    (ix3 ⟨e.val / 256, by omega⟩ 0 ⟨e.val % 256, Nat.mod_lt _ (by decide)⟩) (by
      rw [Shape.rowMajor_val_three, Shape.rowMajor_val_three]
      show (e.val / 256 * 1 + 0) * 256 + e.val % 256 = (e.val / 640 * 1 + 0) * 640 + e.val % 640
      omega)).trans ?_
  refine congrArg (Spec.de (Spec.widen 5120 (H m c))) (Fin.ext ?_)
  show e.val / 256 * 256 + e.val % 256 = e.val
  omega

/-- The hyperedges' array stays over the first two layers. -/
theorem v1_kept : W4 m c (Proc.devRef .tc main_v1) = W2 m c (Proc.devRef .tc main_v1)
    ∧ W6 m c (Proc.devRef .tc main_v1) = W2 m c (Proc.devRef .tc main_v1) := by
  have e4 := (host2_keeps m c main_v1 (by decide)).trans (call1_keeps m c main_v1 (by decide))
  exact ⟨e4, (host3_keeps m c main_v1 (by decide)).trans ((call2_keeps m c main_v1 (by decide)).trans e4)⟩

/-! ## The layers -/

/-- The first layer's features. -/
abbrev first : Fin 10000 → Fin 128 → EReal := Spec.layer (H m c) (x m c) (w0 m c) (b0 m c)
/-- The second layer's features, its input added. -/
abbrev second (n : Fin 10000) (j : Fin 128) : EReal := Spec.layer (H m c) (first m c) (w1 m c) (b1 m c) n j + first m c n j

/-- The first layer's array, as the second call reads it. -/
theorem first_left (n : Fin 10000) (j : Fin 128) : (W4 m c (Proc.devRef .tc main_v3) : Vec Ideal S10000x128 .f32) (ix2 n j) = first m c n j := by
  refine (congrFun ((host2_keeps m c main_v3 (by decide)).trans
    ((Pipeline.afterRegion_arr (Layer1.dat (W2 m) c) (W2 m c) winFacts1.arr_inj 6).trans (LayerValue1.arr_out (W2 m) c))) (ix2 n j)).trans ?_
  refine (LayerValue1.out_eq (W2 m) c n j).trans ?_
  refine layer_of (E' := 5120) (by decide) (H m c) (LayerValue1.acc_eq (W2 m) c) (fun n e => ?_) (fun n => ?_) (weight m c) (fun n k => ?_)
    (fun k j => ?_) (bias0 m c) n j
  · exact congrFun ((degrees_kept m c main_v0_0 (by decide)).1.trans (wide_left m c)) (ix2 n e)
  · exact congrFun ((degrees_kept m c main_v0_1 (by decide)).1.trans (roots_left m c)) (ix2 n 0)
  · exact congrFun (arg_kept m c main_arg0 (by decide)).1 (ix2 n k)
  · exact congrFun (arg_kept m c main_arg2 (by decide)).1 (ix2 k j)

/-- The second layer's array, as the third call reads it. -/
theorem second_left (n : Fin 10000) (j : Fin 128) : (W6 m c (Proc.devRef .tc main_v5) : Vec Ideal S10000x128 .f32) (ix2 n j) = second m c n j := by
  refine (congrFun ((host3_keeps m c main_v5 (by decide)).trans
    ((Pipeline.afterRegion_arr (Layer2.dat (W4 m) c) (W4 m c) winFacts2.arr_inj 6).trans (LayerValue2.arr_out (W4 m) c))) (ix2 n j)).trans ?_
  refine (LayerValue2.out_eq (W4 m) c n j).trans ?_
  refine congr (congrArg HAdd.hAdd ?_) (first_left m c n j)
  refine layer_of (E' := 5120) (by decide) (H m c) (LayerValue2.acc_eq (W4 m) c) (fun n e => ?_) (fun n => ?_) (fun e => ?_) (first_left m c)
    (fun k j => ?_) (bias1 m c) n j
  · exact congrFun ((degrees_kept m c main_v0_0 (by decide)).2.1.trans (wide_left m c)) (ix2 n e)
  · exact congrFun ((degrees_kept m c main_v0_1 (by decide)).2.1.trans (roots_left m c)) (ix2 n 0)
  · exact (congrFun (v1_kept m c).1 _).trans (weight m c e)
  · exact congrFun (arg_kept m c main_arg4 (by decide)).2.1 (ix2 k j)

/-- The kernel's result is the network's. -/
theorem result_apply (n : Fin 10000) (j : Fin 64) : (W7 m c (Proc.devRef .tc main_v7) : Vec Ideal S10000x64 .f32) (ix2 n j)
    = Spec.network (H m c) (x m c) (w0 m c) (b0 m c) (w1 m c) (b1 m c) (w2 m c) (b2 m c) n j := by
  refine (congrFun ((Pipeline.afterRegion_arr (Layer3.dat (W6 m) c) (W6 m c) winFacts3.arr_inj 6).trans (LayerValue3.arr_out (W6 m) c)) (ix2 n j)).trans ?_
  refine (LayerValue3.out_eq (W6 m) c n j).trans ?_
  refine layer_of (E' := 5120) (by decide) (H m c) (LayerValue3.acc_eq (W6 m) c) (fun n e => ?_) (fun n => ?_) (fun e => ?_) (second_left m c)
    (fun k j => ?_) (bias2 m c) n j
  · exact congrFun ((degrees_kept m c main_v0_0 (by decide)).2.2.trans (wide_left m c)) (ix2 n e)
  · exact congrFun ((degrees_kept m c main_v0_1 (by decide)).2.2.trans (roots_left m c)) (ix2 n 0)
  · exact (congrFun (v1_kept m c).2 _).trans (weight m c e)
  · exact congrFun (arg_kept m c main_arg6 (by decide)).2.2.1 (ix2 k j)

end Cert.Proof.KernelValue

end
-- ==== Proof.RefValue.lean ====
/-
  The reference's result in the extended reals: the network over plain coordinates.
-/
module

public import proofs.«01_k».proof.Proof.Gen.ReferenceIdeal.Read
public import proofs.«01_k».proof.Proof.Spec

@[expose] public section

set_option maxRecDepth 16384

noncomputable section

namespace Cert.Proof.RefValue

open Cert.ReferenceIdeal Cert.ReferenceIdeal.Gen Cert.ReferenceIdeal.Read
open Idealize.ShloMosaic Idealize.ShloMosaic.ValueIdx
open scoped BigOperators

/-- A matrix by its coordinates. -/
abbrev mat {a b : ℕ} (x : (⟨2, ![a, b]⟩ : Shape).Idx → EReal) (i : Fin a) (j : Fin b) : EReal := x (ix2 i j)
/-- A vector by its coordinate. -/
abbrev vec {a : ℕ} (x : (⟨1, ![a]⟩ : Shape).Idx → EReal) (i : Fin a) : EReal := x (ix1 i)

/-- The reference's vertex scaling is the inverse root degree. -/
theorem dv_apply (x1 : (⟨S10000x5000, .f32⟩ : BufTy).Contents (Elt Ideal)) (i : S10000.Idx) :
    val_main_v6 (F := Ideal) x1 i = Spec.dv (mat x1) (i 0) := by
  rw [val_main_v6_apply, val_main_v5_apply, val_main_cst_2_apply, val_main_v4_apply, val_main_v3_apply, val_main_v2_apply,
    val_main_cst_1_apply, val_main_v0_apply, val_main_cst_apply]
  show Ideal.div Spec.one (Ideal.sqrt (max (Ideal.ofBits .f32 0x00000000#32 + _) Spec.floor)) = _
  rw [Ideal.ofBits_zero_f32, zero_add]
  refine congrArg (fun s => Spec.invRoot s) (Finset.sum_congr rfl fun k _ => congrArg x1 (eq_ix2 _))

/-- The reference's hyperedge weight is the inverse degree. -/
theorem de_apply (x1 : (⟨S10000x5000, .f32⟩ : BufTy).Contents (Elt Ideal)) (i : S5000.Idx) :
    val_main_v10 (F := Ideal) x1 i = Spec.de (mat x1) (i 0) := by
  rw [val_main_v10_apply, val_main_v9_apply, val_main_cst_4_apply, val_main_v8_apply, val_main_v7_apply,
    val_main_cst_3_apply, val_main_v1_apply, val_main_cst_0_apply]
  show Ideal.div Spec.one (max (Ideal.ofBits .f32 0x00000000#32 + _) Spec.floor) = _
  rw [Ideal.ofBits_zero_f32, zero_add]
  refine congrArg (fun s => Spec.inv s) (Finset.sum_congr rfl fun k _ => congrArg x1 (eq_ix2 _))

/-- The features scaled at the vertices. -/
theorem scaled_apply (x0 : (⟨S10000x128, .f32⟩ : BufTy).Contents (Elt Ideal)) (x1 : (⟨S10000x5000, .f32⟩ : BufTy).Contents (Elt Ideal)) (i : S10000x128.Idx) :
    val_main_v13 (F := Ideal) x0 x1 i = x0 i * Spec.dv (mat x1) (i 0) := by
  rw [val_main_v13_apply, val_main_v12_apply, val_main_v11_apply, dv_apply]; rfl

/-- The features gathered to the hyperedges and weighed. -/
theorem gathered_apply (x0 : (⟨S10000x128, .f32⟩ : BufTy).Contents (Elt Ideal)) (x1 : (⟨S10000x5000, .f32⟩ : BufTy).Contents (Elt Ideal)) (e : Fin 5000) (k : Fin 128) :
    val_main_v18 (F := Ideal) x0 x1 (ix2 e k) = (∑ n : Fin 10000, (x0 (ix2 n k) * Spec.dv (mat x1) n) * x1 (ix2 n e)) * Spec.de (mat x1) e := by
  rw [val_main_v18_apply, val_main_v17_apply, val_main_v16_apply, de_apply, val_main_v15_apply]
  show (_ : EReal) * _ = _
  refine congr (congrArg HMul.hMul (Finset.sum_congr rfl fun n _ => ?_)) rfl
  rw [val_main_v14_apply, scaled_apply, mul_comm]
  refine congr (congrArg HMul.hMul (congr (congrArg HMul.hMul (congrArg x0 (eq_ix2 _))) rfl)) (congrArg x1 (eq_ix2 _))

/-- The features spread back to the vertices. -/
theorem spread_apply (x0 : (⟨S10000x128, .f32⟩ : BufTy).Contents (Elt Ideal)) (x1 : (⟨S10000x5000, .f32⟩ : BufTy).Contents (Elt Ideal)) (n : Fin 10000) (k : Fin 128) :
    val_main_v19 (F := Ideal) x0 x1 (ix2 n k) = Spec.spread (mat x1) (Spec.dv (mat x1)) (Spec.de (mat x1)) (mat x0) n k := by
  rw [val_main_v19_apply]
  refine Finset.sum_congr rfl fun e _ => ?_
  refine congr (congrArg HMul.hMul (congrArg x1 (eq_ix2 _))) ?_
  rw [eq_ix2 (ridx_main_v19 (ix2 n k) e)]
  exact gathered_apply x0 x1 e k

/-- The spread features scaled at the vertices. -/
theorem rescaled_apply (x0 : (⟨S10000x128, .f32⟩ : BufTy).Contents (Elt Ideal)) (x1 : (⟨S10000x5000, .f32⟩ : BufTy).Contents (Elt Ideal)) (n : Fin 10000) (k : Fin 128) :
    val_main_v22 (F := Ideal) x0 x1 (ix2 n k)
      = Spec.spread (mat x1) (Spec.dv (mat x1)) (Spec.de (mat x1)) (mat x0) n k * Spec.dv (mat x1) n := by
  rw [val_main_v22_apply, val_main_v21_apply, val_main_v20_apply, dv_apply, spread_apply]; rfl

/-- The first layer's result. -/
theorem layer_apply (x0 : (⟨S10000x128, .f32⟩ : BufTy).Contents (Elt Ideal)) (x1 : (⟨S10000x5000, .f32⟩ : BufTy).Contents (Elt Ideal))
    (x2 : (⟨S128x128, .f32⟩ : BufTy).Contents (Elt Ideal)) (x3 : (⟨S128, .f32⟩ : BufTy).Contents (Elt Ideal)) (n : Fin 10000) (j : Fin 128) :
    val_main_v27 (F := Ideal) x0 x1 x2 x3 (ix2 n j) = Spec.layer (mat x1) (mat x0) (mat x2) (vec x3) n j := by
  rw [val_main_v27_apply, val_main_v26_apply, val_main_v25_apply, val_main_v24_apply, val_main_v23_apply,
    val_main_call0_v0_apply, val_main_call0_cst_apply]
  show max ((_ : EReal) + _) (Ideal.ofBits .f32 0x00000000#32) = _
  refine congr (congrArg max (congr (congrArg HAdd.hAdd ?_) (congrArg x3 (eq_ix1 _)))) Ideal.ofBits_zero_f32
  refine Finset.sum_congr rfl fun k _ => ?_
  refine congr (congrArg HMul.hMul ?_) (congrArg x2 (eq_ix2 _))
  rw [eq_ix2 (lidx_main_v23 (ix2 n j) k)]
  exact rescaled_apply x0 x1 n k

variable (x0 : (⟨S10000x128, .f32⟩ : BufTy).Contents (Elt Ideal)) (x1 : (⟨S10000x5000, .f32⟩ : BufTy).Contents (Elt Ideal))
  (x2 : (⟨S128x128, .f32⟩ : BufTy).Contents (Elt Ideal)) (x3 : (⟨S128, .f32⟩ : BufTy).Contents (Elt Ideal))
  (x4 : (⟨S128x128, .f32⟩ : BufTy).Contents (Elt Ideal)) (x5 : (⟨S128, .f32⟩ : BufTy).Contents (Elt Ideal))
  (x6 : (⟨S128x64, .f32⟩ : BufTy).Contents (Elt Ideal)) (x7 : (⟨S64, .f32⟩ : BufTy).Contents (Elt Ideal))

/-- The second layer's operations are the first layer's at the first layer's result. -/
theorem second_eq : val_main_v55 (F := Ideal) x0 x1 x2 x3 x4 x5
    = val_main_v27 (F := Ideal) (val_main_v27 (F := Ideal) x0 x1 x2 x3) x1 x4 x5 := rfl

/-- The third layer's operations up to the weights are the first layer's at the second layer's result. -/
theorem third_eq : val_main_v79 (F := Ideal) x0 x1 x2 x3 x4 x5
    = val_main_v22 (F := Ideal) (val_main_v56 (F := Ideal) x0 x1 x2 x3 x4 x5) x1 := rfl

/-- The second layer's result, its input added. -/
theorem second_apply (n : Fin 10000) (j : Fin 128) :
    val_main_v56 (F := Ideal) x0 x1 x2 x3 x4 x5 (ix2 n j)
      = Spec.layer (mat x1) (Spec.layer (mat x1) (mat x0) (mat x2) (vec x3)) (mat x4) (vec x5) n j
        + Spec.layer (mat x1) (mat x0) (mat x2) (vec x3) n j := by
  have h : mat (val_main_v27 (F := Ideal) x0 x1 x2 x3) = Spec.layer (mat x1) (mat x0) (mat x2) (vec x3) :=
    funext fun n => funext fun j => layer_apply x0 x1 x2 x3 n j
  rw [val_main_v56_apply, second_eq, layer_apply, layer_apply, h]; rfl

/-- The reference's result is the network's. -/
theorem result_apply (n : Fin 10000) (j : Fin 64) :
    val_main_v84 (F := Ideal) x0 x1 x2 x3 x4 x5 x6 x7 (ix2 n j)
      = Spec.network (mat x1) (mat x0) (mat x2) (vec x3) (mat x4) (vec x5) (mat x6) (vec x7) n j := by
  have h : mat (val_main_v56 (F := Ideal) x0 x1 x2 x3 x4 x5)
      = fun n j => Spec.layer (mat x1) (Spec.layer (mat x1) (mat x0) (mat x2) (vec x3)) (mat x4) (vec x5) n j
        + Spec.layer (mat x1) (mat x0) (mat x2) (vec x3) n j :=
    funext fun n => funext fun j => second_apply x0 x1 x2 x3 x4 x5 n j
  rw [val_main_v84_apply, val_main_v83_apply, val_main_v82_apply, val_main_v81_apply, val_main_v80_apply,
    val_main_call2_v0_apply, val_main_call2_cst_apply]
  unfold Spec.network
  rw [← h]
  show max ((_ : EReal) + _) (Ideal.ofBits .f32 0x00000000#32) = _
  refine congr (congrArg max (congr (congrArg HAdd.hAdd ?_) (congrArg x7 (eq_ix1 _)))) Ideal.ofBits_zero_f32
  refine Finset.sum_congr rfl fun k _ => ?_
  refine congr (congrArg HMul.hMul ?_) (congrArg x6 (eq_ix2 _))
  rw [third_eq, eq_ix2 (lidx_main_v80 (ix2 n j) k)]
  exact rescaled_apply _ x1 n k

end Cert.Proof.RefValue

end
-- ==== Proof.Equation.lean ====
/-
  Over the extended reals the kernel's result is the reference's: both are the network of the arguments.
-/
module

public import proofs.«01_k».proof.Defs
public import proofs.«01_k».proof.Proof.KernelValue
public import proofs.«01_k».proof.Proof.RefValue
public import proofs.«01_k».proof.Proof.Gen.ReferenceIdeal.Run

@[expose] public section

set_option maxRecDepth 16384

noncomputable section

namespace Cert.Proof.Equation

open Idealize.ShloMosaic Idealize.ShloMosaic.TcCoe Idealize.ShloMosaic.ValueIdx Idealize.SL.Sem

/-- The reference's result, at the kernel's arguments, is the array the kernel's run ends at. -/
theorem result_eq (m : (ℓ : Loc Cert.KernelIdeal.nD Cert.KernelIdeal.τ Cert.KernelIdeal.sig) → Buf (Elt Ideal) ℓ) (c : Dev Cert.KernelIdeal.nD) :
    Cert.ReferenceIdeal.Read.val_main_v84 (F := Ideal)
        (m (c, Proc.devRef .tc Cert.KernelIdeal.main_arg0)) (m (c, Proc.devRef .tc Cert.KernelIdeal.main_arg1))
        (m (c, Proc.devRef .tc Cert.KernelIdeal.main_arg2)) (m (c, Proc.devRef .tc Cert.KernelIdeal.main_arg3))
        (m (c, Proc.devRef .tc Cert.KernelIdeal.main_arg4)) (m (c, Proc.devRef .tc Cert.KernelIdeal.main_arg5))
        (m (c, Proc.devRef .tc Cert.KernelIdeal.main_arg6)) (m (c, Proc.devRef .tc Cert.KernelIdeal.main_arg7))
      = (Run.W7 m c (Proc.devRef .tc Cert.KernelIdeal.main_v7) : Vec Ideal Cert.KernelIdeal.S10000x64 .f32) := by
  funext i
  rw [eq_ix2 i]
  exact (RefValue.result_apply _ _ _ _ _ _ _ _ (i 0) (i 1)).trans (KernelValue.result_apply m c (i 0) (i 1)).symm

/-- The value claim: from arguments that agree both programs run, leave their arguments and end with equal results. -/
theorem algebraic : Cert.algebraic_KernelIdeal_ReferenceIdeal := by
  intro m g m' g' _ hargs
  refine ⟨fun c => Run.W7 m c (Proc.devRef .tc Cert.KernelIdeal.main_v7), ?_, ?_⟩
  · refine (θ_run Cert.KernelIdeal.defs _ _).mono (fun r h c => ?_) (Frames.run_result (F := Ideal) m g)
    obtain ⟨hv, ha⟩ := h.1 c
    exact ⟨hv, ha _ (by decide), ha _ (by decide), ha _ (by decide), ha _ (by decide), ha _ (by decide), ha _ (by decide),
      ha _ (by decide), ha _ (by decide)⟩
  · refine (θ_run Cert.ReferenceIdeal.defs _ _).mono (fun r h c => ⟨?_, (h c).2⟩) (Cert.ReferenceIdeal.Value.run (F := Ideal) m' g')
    obtain ⟨e0, e1, e2, e3, e4, e5, e6, e7⟩ := hargs c
    refine (h c).1.trans ((Cert.ReferenceIdeal.Read.val_main_v84_eq m' c).trans ?_)
    rw [e0, e1, e2, e3, e4, e5, e6, e7]
    exact result_eq m c

end Cert.Proof.Equation

end
-- ==== Proof.lean ====
/-
  The certificate: the three frames and, over the extended reals, the kernel's result equal to the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.ReferenceIdeal.Read
public import proofs.«01_k».proof.Proof.Frames
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The claims, with the witnesses of the programs' side conditions. -/
theorem claim : Cert.Claim := ⟨Cert.Kernel.Gen.facts, Cert.KernelIdeal.Gen.facts, Cert.ReferenceIdeal.Gen.facts,
  Frames.quiescent_kernel, Frames.quiescent_kernelIdeal, Frames.quiescent_reference, trivial, Equation.algebraic⟩

end Cert.Proof

end
